-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x576x512 : Shape := ⟨3, ![8, 576, 512]⟩
abbrev S4x1024x128 : Shape := ⟨3, ![4, 1024, 128]⟩
abbrev S_ : Shape := ⟨0, ![]⟩

class Facts : Prop where
  bcast_S_S8x576x512 : S_.BroadcastsInDim S8x576x512 (![] : Fin 0 → Fin S8x576x512.rank)
  reducesTo_S8x576x512_S_d0_1_2 : S8x576x512.ReducesTo [0, 1, 2] S_
  h_S_ : 0 < S_.numel
  bcast_S_S4x1024x128 : S_.BroadcastsInDim S4x1024x128 (![] : Fin 0 → Fin S4x1024x128.rank)
  reducesTo_S4x1024x128_S_d0_1_2 : S4x1024x128.ReducesTo [0, 1, 2] S_

variable [Facts]

def fn {F : FTy → Type} [FloatOps F] (main_arg0 : FVec F S8x576x512 .f32) (main_arg1 : FVec F S4x1024x128 .f32) : IVec S_ 1 :=
  let main_v0 : FVec F S8x576x512 .f32 := Host.absf main_arg0
  let main_cst : FVec F S_ .f32 := constant S_ .f32 0x7F800000#32
  let main_v1 : FVec F S8x576x512 .f32 := broadcastInDim S8x576x512 ![] bcast_S_S8x576x512 main_cst
  let main_v2 : IVec S8x576x512 1 := cmpf .olt main_v0 main_v1
  let main_c : IVec S_ 1 := constantI S_ 1 1#1
  let main_v3 : IVec S_ 1 := (fun x v => Host.reduce IntOp.andi x v reducesTo_S8x576x512_S_d0_1_2 h_S_) main_v2 main_c
  let main_v4 : FVec F S4x1024x128 .f32 := Host.absf main_arg1
  let main_cst_0 : FVec F S_ .f32 := constant S_ .f32 0x7F800000#32
  let main_v5 : FVec F S4x1024x128 .f32 := broadcastInDim S4x1024x128 ![] bcast_S_S4x1024x128 main_cst_0
  let main_v6 : IVec S4x1024x128 1 := cmpf .olt main_v4 main_v5
  let main_c_1 : IVec S_ 1 := constantI S_ 1 1#1
  let main_v7 : IVec S_ 1 := (fun x v => Host.reduce IntOp.andi x v reducesTo_S4x1024x128_S_d0_1_2 h_S_) main_v6 main_c_1
  let main_v8 : IVec S_ 1 := andi main_v3 main_v7
  main_v8
-- ==== Kernel.lean ====
abbrev S8x576x512 : Shape := ⟨3, ![8, 576, 512]⟩
abbrev S4x1024x128 : Shape := ⟨3, ![4, 1024, 128]⟩
abbrev S4608x512 : Shape := ⟨2, ![4608, 512]⟩
abbrev S4608x4 : Shape := ⟨2, ![4608, 4]⟩
abbrev S1x4 : Shape := ⟨2, ![1, 4]⟩
abbrev S8x576x4 : Shape := ⟨3, ![8, 576, 4]⟩
abbrev S4 : Shape := ⟨1, ![4]⟩
abbrev S4608x128 : Shape := ⟨2, ![4608, 128]⟩
abbrev S1x1024x128 : Shape := ⟨3, ![1, 1024, 128]⟩
abbrev S1024x128 : Shape := ⟨2, ![1024, 128]⟩
abbrev S1024 : Shape := ⟨1, ![1024]⟩
abbrev S1x8 : Shape := ⟨2, ![1, 8]⟩
abbrev S4608x8 : Shape := ⟨2, ![4608, 8]⟩
abbrev S4608x136 : Shape := ⟨2, ![4608, 136]⟩
abbrev S1024x1 : Shape := ⟨2, ![1024, 1]⟩
abbrev S1024x7 : Shape := ⟨2, ![1024, 7]⟩
abbrev S1024x136 : Shape := ⟨2, ![1024, 136]⟩
abbrev S4608x1024 : Shape := ⟨2, ![4608, 1024]⟩
abbrev S4608 : Shape := ⟨1, ![4608]⟩
abbrev S1x1024 : Shape := ⟨2, ![1, 1024]⟩
abbrev S4608x1 : Shape := ⟨2, ![4608, 1]⟩
abbrev S1x4608 : Shape := ⟨2, ![1, 4608]⟩
abbrev S1 : Shape := ⟨1, ![1]⟩
abbrev S1x1 : Shape := ⟨2, ![1, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x576x512, .f32⟩
  | .hbm, ⟨1, _⟩ => ⟨S4x1024x128, .f32⟩
  | .hbm, ⟨2, _⟩ => ⟨S4608x512, .f32⟩
  | .hbm, ⟨3, _⟩ => ⟨S4608x512, .f32⟩
  | .hbm, ⟨4, _⟩ => ⟨S4608x4, .i32⟩
  | .hbm, ⟨5, _⟩ => ⟨S1x4, .f32⟩
  | .hbm, ⟨6, _⟩ => ⟨S8x576x512, .f32⟩
  | .hbm, ⟨7, _⟩ => ⟨S8x576x4, .i32⟩
  | .hbm, ⟨8, _⟩ => ⟨S4, .f32⟩
  | .local _ .vmem, ⟨0, _⟩ => ⟨S4608x128, .f32⟩
  | .local _ .vmem, ⟨1, _⟩ => ⟨S4608x128, .f32⟩
  | .local _ .vmem, ⟨2, _⟩ => ⟨S1x1024x128, .f32⟩
  | .local _ .vmem, ⟨3, _⟩ => ⟨S1x1024x128, .f32⟩
  | .local _ .vmem, ⟨4, _⟩ => ⟨S4608x128, .f32⟩
  | .local _ .vmem, ⟨5, _⟩ => ⟨S4608x128, .f32⟩
  | .local _ .vmem, ⟨6, _⟩ => ⟨S4608x4, .i32⟩
  | .local _ .vmem, ⟨7, _⟩ => ⟨S1x4, .f32⟩
  | _, _ => ⟨S8x576x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v1_2 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4608x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4608x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4608x4 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x576x512 : Shape := ⟨3, ![8, 576, 512]⟩
abbrev S4x1024x128 : Shape := ⟨3, ![4, 1024, 128]⟩
abbrev S8x576x4x128 : Shape := ⟨4, ![8, 576, 4, 128]⟩
abbrev S8x576x1x128 : Shape := ⟨4, ![8, 576, 1, 128]⟩
abbrev S8x576x128 : Shape := ⟨3, ![8, 576, 128]⟩
abbrev S1x1024x128 : Shape := ⟨3, ![1, 1024, 128]⟩
abbrev S1024x128 : Shape := ⟨2, ![1024, 128]⟩
abbrev S_ : Shape := ⟨0, ![]⟩
abbrev S8x576 : Shape := ⟨2, ![8, 576]⟩
abbrev S8x576x1 : Shape := ⟨3, ![8, 576, 1]⟩
abbrev S1024 : Shape := ⟨1, ![1024]⟩
abbrev S8x576x1024 : Shape := ⟨3, ![8, 576, 1024]⟩
abbrev S1x1x1024 : Shape := ⟨3, ![1, 1, 1024]⟩
abbrev S1 : Shape := ⟨1, ![1]⟩
abbrev S1x1x1 : Shape := ⟨3, ![1, 1, 1]⟩
abbrev S8x576x4 : Shape := ⟨3, ![8, 576, 4]⟩
abbrev S4 : Shape := ⟨1, ![4]⟩

abbrev nBuf : Space → Nat
  | .hbm => 238
  | .vmem => 0
  | .smem => 0
  | _ => 0

abbrev hbmTy0_0 (i : Nat) : BufTy := match i % 128 with
  | 0 => ⟨S8x576x512, .f32⟩
  | 1 => ⟨S4x1024x128, .f32⟩
  | 2 => ⟨S8x576x4x128, .f32⟩
  | 3 => ⟨S8x576x1x128, .f32⟩
  | 4 => ⟨S8x576x128, .f32⟩
  | 5 => ⟨S1x1024x128, .f32⟩
  | 6 => ⟨S1024x128, .f32⟩
  | 7 => ⟨S8x576x128, .f32⟩
  | 8 => ⟨S_, .f32⟩
  | 9 => ⟨S8x576, .f32⟩
  | 10 => ⟨S8x576x1, .f32⟩
  | 11 => ⟨S1024x128, .f32⟩
  | 12 => ⟨S_, .f32⟩
  | 13 => ⟨S1024, .f32⟩
  | 14 => ⟨S8x576x1024, .f32⟩
  | 15 => ⟨S_, .f32⟩
  | 16 => ⟨S8x576x1024, .f32⟩
  | 17 => ⟨S8x576x1024, .f32⟩
  | 18 => ⟨S8x576x1024, .f32⟩
  | 19 => ⟨S8x576x1024, .f32⟩
  | 20 => ⟨S1x1x1024, .f32⟩
  | 21 => ⟨S8x576x1024, .f32⟩
  | 22 => ⟨S8x576x1024, .f32⟩
  | 23 => ⟨S8x576x1024, .i32⟩
  | 24 => ⟨S_, .f32⟩
  | 25 => ⟨S_, .i32⟩
  | 26 => ⟨S8x576, .f32⟩
  | 27 => ⟨S8x576, .i32⟩
  | 28 => ⟨S_, .i32⟩
  | 29 => ⟨S8x576, .i32⟩
  | 30 => ⟨S8x576, .i1⟩
  | 31 => ⟨S_, .i32⟩
  | 32 => ⟨S8x576, .i32⟩
  | 33 => ⟨S8x576, .i32⟩
  | 34 => ⟨S8x576, .i32⟩
  | 35 => ⟨S8x576x1, .i32⟩
  | 36 => ⟨S1, .i32⟩
  | 37 => ⟨S_, .i32⟩
  | 38 => ⟨S8x576x1, .i32⟩
  | 39 => ⟨S8x576x1, .i1⟩
  | 40 => ⟨S1x1x1, .i32⟩
  | 41 => ⟨S8x576x1, .i32⟩
  | 42 => ⟨S8x576x1, .i1⟩
  | 43 => ⟨S8x576x1, .i1⟩
  | 44 => ⟨S_, .i1⟩
  | 45 => ⟨S8x576, .i1⟩
  | 46 => ⟨S8x576x128, .f32⟩
  | 47 => ⟨S8x576x128, .i1⟩
  | 48 => ⟨S_, .f32⟩
  | 49 => ⟨S8x576x128, .f32⟩
  | 50 => ⟨S8x576x128, .f32⟩
  | 51 => ⟨S8x576x128, .f32⟩
  | 52 => ⟨S8x576x128, .f32⟩
  | 53 => ⟨S8x576x128, .f32⟩
  | 54 => ⟨S8x576x128, .f32⟩
  | 55 => ⟨S_, .f32⟩
  | 56 => ⟨S_, .f32⟩
  | 57 => ⟨S_, .f32⟩
  | 58 => ⟨S_, .f32⟩
  | 59 => ⟨S1, .f32⟩
  | 60 => ⟨S8x576x1, .i32⟩
  | 61 => ⟨S8x576x1x128, .f32⟩
  | 62 => ⟨S8x576x128, .f32⟩
  | 63 => ⟨S1x1024x128, .f32⟩
  | 64 => ⟨S1024x128, .f32⟩
  | 65 => ⟨S8x576x128, .f32⟩
  | 66 => ⟨S_, .f32⟩
  | 67 => ⟨S8x576, .f32⟩
  | 68 => ⟨S8x576x1, .f32⟩
  | 69 => ⟨S1024x128, .f32⟩
  | 70 => ⟨S_, .f32⟩
  | 71 => ⟨S1024, .f32⟩
  | 72 => ⟨S8x576x1024, .f32⟩
  | 73 => ⟨S_, .f32⟩
  | 74 => ⟨S8x576x1024, .f32⟩
  | 75 => ⟨S8x576x1024, .f32⟩
  | 76 => ⟨S8x576x1024, .f32⟩
  | 77 => ⟨S8x576x1024, .f32⟩
  | 78 => ⟨S1x1x1024, .f32⟩
  | 79 => ⟨S8x576x1024, .f32⟩
  | 80 => ⟨S8x576x1024, .f32⟩
  | 81 => ⟨S8x576x1024, .i32⟩
  | 82 => ⟨S_, .f32⟩
  | 83 => ⟨S_, .i32⟩
  | 84 => ⟨S8x576, .f32⟩
  | 85 => ⟨S8x576, .i32⟩
  | 86 => ⟨S_, .i32⟩
  | 87 => ⟨S8x576, .i32⟩
  | 88 => ⟨S8x576, .i1⟩
  | 89 => ⟨S_, .i32⟩
  | 90 => ⟨S8x576, .i32⟩
  | 91 => ⟨S8x576, .i32⟩
  | 92 => ⟨S8x576, .i32⟩
  | 93 => ⟨S8x576x1, .i32⟩
  | 94 => ⟨S1, .i32⟩
  | 95 => ⟨S_, .i32⟩
  | 96 => ⟨S8x576x1, .i32⟩
  | 97 => ⟨S8x576x1, .i1⟩
  | 98 => ⟨S1x1x1, .i32⟩
  | 99 => ⟨S8x576x1, .i32⟩
  | 100 => ⟨S8x576x1, .i1⟩
  | 101 => ⟨S8x576x1, .i1⟩
  | 102 => ⟨S_, .i1⟩
  | 103 => ⟨S8x576, .i1⟩
  | 104 => ⟨S8x576x128, .f32⟩
  | 105 => ⟨S8x576x128, .i1⟩
  | 106 => ⟨S_, .f32⟩
  | 107 => ⟨S8x576x128, .f32⟩
  | 108 => ⟨S8x576x128, .f32⟩
  | 109 => ⟨S8x576x128, .f32⟩
  | 110 => ⟨S8x576x128, .f32⟩
  | 111 => ⟨S8x576x128, .f32⟩
  | 112 => ⟨S8x576x128, .f32⟩
  | 113 => ⟨S_, .f32⟩
  | 114 => ⟨S_, .f32⟩
  | 115 => ⟨S_, .f32⟩
  | 116 => ⟨S_, .f32⟩
  | 117 => ⟨S1, .f32⟩
  | 118 => ⟨S8x576x1, .i32⟩
  | 119 => ⟨S8x576x1x128, .f32⟩
  | 120 => ⟨S8x576x128, .f32⟩
  | 121 => ⟨S1x1024x128, .f32⟩
  | 122 => ⟨S1024x128, .f32⟩
  | 123 => ⟨S8x576x128, .f32⟩
  | 124 => ⟨S_, .f32⟩
  | 125 => ⟨S8x576, .f32⟩
  | 126 => ⟨S8x576x1, .f32⟩
  | 127 => ⟨S1024x128, .f32⟩
  | _ => ⟨S8x576x512, .f32⟩

abbrev hbmTy0_1 (i : Nat) : BufTy := match i % 128 with
  | 0 => ⟨S_, .f32⟩
  | 1 => ⟨S1024, .f32⟩
  | 2 => ⟨S8x576x1024, .f32⟩
  | 3 => ⟨S_, .f32⟩
  | 4 => ⟨S8x576x1024, .f32⟩
  | 5 => ⟨S8x576x1024, .f32⟩
  | 6 => ⟨S8x576x1024, .f32⟩
  | 7 => ⟨S8x576x1024, .f32⟩
  | 8 => ⟨S1x1x1024, .f32⟩
  | 9 => ⟨S8x576x1024, .f32⟩
  | 10 => ⟨S8x576x1024, .f32⟩
  | 11 => ⟨S8x576x1024, .i32⟩
  | 12 => ⟨S_, .f32⟩
  | 13 => ⟨S_, .i32⟩
  | 14 => ⟨S8x576, .f32⟩
  | 15 => ⟨S8x576, .i32⟩
  | 16 => ⟨S_, .i32⟩
  | 17 => ⟨S8x576, .i32⟩
  | 18 => ⟨S8x576, .i1⟩
  | 19 => ⟨S_, .i32⟩
  | 20 => ⟨S8x576, .i32⟩
  | 21 => ⟨S8x576, .i32⟩
  | 22 => ⟨S8x576, .i32⟩
  | 23 => ⟨S8x576x1, .i32⟩
  | 24 => ⟨S1, .i32⟩
  | 25 => ⟨S_, .i32⟩
  | 26 => ⟨S8x576x1, .i32⟩
  | 27 => ⟨S8x576x1, .i1⟩
  | 28 => ⟨S1x1x1, .i32⟩
  | 29 => ⟨S8x576x1, .i32⟩
  | 30 => ⟨S8x576x1, .i1⟩
  | 31 => ⟨S8x576x1, .i1⟩
  | 32 => ⟨S_, .i1⟩
  | 33 => ⟨S8x576, .i1⟩
  | 34 => ⟨S8x576x128, .f32⟩
  | 35 => ⟨S8x576x128, .i1⟩
  | 36 => ⟨S_, .f32⟩
  | 37 => ⟨S8x576x128, .f32⟩
  | 38 => ⟨S8x576x128, .f32⟩
  | 39 => ⟨S8x576x128, .f32⟩
  | 40 => ⟨S8x576x128, .f32⟩
  | 41 => ⟨S8x576x128, .f32⟩
  | 42 => ⟨S8x576x128, .f32⟩
  | 43 => ⟨S_, .f32⟩
  | 44 => ⟨S_, .f32⟩
  | 45 => ⟨S_, .f32⟩
  | 46 => ⟨S_, .f32⟩
  | 47 => ⟨S1, .f32⟩
  | 48 => ⟨S8x576x1, .i32⟩
  | 49 => ⟨S8x576x1x128, .f32⟩
  | 50 => ⟨S8x576x128, .f32⟩
  | 51 => ⟨S1x1024x128, .f32⟩
  | 52 => ⟨S1024x128, .f32⟩
  | 53 => ⟨S8x576x128, .f32⟩
  | 54 => ⟨S_, .f32⟩
  | 55 => ⟨S8x576, .f32⟩
  | 56 => ⟨S8x576x1, .f32⟩
  | 57 => ⟨S1024x128, .f32⟩
  | 58 => ⟨S_, .f32⟩
  | 59 => ⟨S1024, .f32⟩
  | 60 => ⟨S8x576x1024, .f32⟩
  | 61 => ⟨S_, .f32⟩
  | 62 => ⟨S8x576x1024, .f32⟩
  | 63 => ⟨S8x576x1024, .f32⟩
  | 64 => ⟨S8x576x1024, .f32⟩
  | 65 => ⟨S8x576x1024, .f32⟩
  | 66 => ⟨S1x1x1024, .f32⟩
  | 67 => ⟨S8x576x1024, .f32⟩
  | 68 => ⟨S8x576x1024, .f32⟩
  | 69 => ⟨S8x576x1024, .i32⟩
  | 70 => ⟨S_, .f32⟩
  | 71 => ⟨S_, .i32⟩
  | 72 => ⟨S8x576, .f32⟩
  | 73 => ⟨S8x576, .i32⟩
  | 74 => ⟨S_, .i32⟩
  | 75 => ⟨S8x576, .i32⟩
  | 76 => ⟨S8x576, .i1⟩
  | 77 => ⟨S_, .i32⟩
  | 78 => ⟨S8x576, .i32⟩
  | 79 => ⟨S8x576, .i32⟩
  | 80 => ⟨S8x576, .i32⟩
  | 81 => ⟨S8x576x1, .i32⟩
  | 82 => ⟨S1, .i32⟩
  | 83 => ⟨S_, .i32⟩
  | 84 => ⟨S8x576x1, .i32⟩
  | 85 => ⟨S8x576x1, .i1⟩
  | 86 => ⟨S1x1x1, .i32⟩
  | 87 => ⟨S8x576x1, .i32⟩
  | 88 => ⟨S8x576x1, .i1⟩
  | 89 => ⟨S8x576x1, .i1⟩
  | 90 => ⟨S_, .i1⟩
  | 91 => ⟨S8x576, .i1⟩
  | 92 => ⟨S8x576x128, .f32⟩
  | 93 => ⟨S8x576x128, .i1⟩
  | 94 => ⟨S_, .f32⟩
  | 95 => ⟨S8x576x128, .f32⟩
  | 96 => ⟨S8x576x128, .f32⟩
  | 97 => ⟨S8x576x128, .f32⟩
  | 98 => ⟨S8x576x128, .f32⟩
  | 99 => ⟨S8x576x128, .f32⟩
  | 100 => ⟨S8x576x128, .f32⟩
  | 101 => ⟨S_, .f32⟩
  | 102 => ⟨S_, .f32⟩
  | 103 => ⟨S_, .f32⟩
  | 104 => ⟨S_, .f32⟩
  | 105 => ⟨S1, .f32⟩
  | 106 => ⟨S8x576x1, .i32⟩
  | 107 => ⟨S8x576x512, .f32⟩
  | 108 => ⟨S8x576x4, .i32⟩
  | 109 => ⟨S4, .f32⟩
  | _ => ⟨S8x576x512, .f32⟩

abbrev hbmTy (i : Nat) : BufTy := match i / 128 with
  | 0 => hbmTy0_0 i
  | 1 => hbmTy0_1 i
  | _ => ⟨S8x576x512, .f32⟩

abbrev bufTy : (tb : Table) → Fin (tcTables nBuf tb) → BufTy
  | .hbm, ⟨i, _⟩ => hbmTy i
  | _, _ => ⟨S8x576x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v18 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_5 : Ref sig .tc := ⟨.hbm, 70, rfl⟩
abbrev main_v36 : Ref sig .tc := ⟨.hbm, 71, rfl⟩
abbrev main_v37 : Ref sig .tc := ⟨.hbm, 72, rfl⟩
abbrev main_cst_6 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call2_v0 : Ref sig .tc := ⟨.hbm, 81, rfl⟩
abbrev main_call2_cst : Ref sig .tc := ⟨.hbm, 82, rfl⟩
abbrev main_call2_c : Ref sig .tc := ⟨.hbm, 83, rfl⟩
abbrev main_call2_v1_0 : Ref sig .tc := ⟨.hbm, 84, rfl⟩
abbrev main_v45 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_cst_7 : Ref sig .tc := ⟨.hbm, 113, rfl⟩
abbrev main_v51 : Ref sig .tc := ⟨.hbm, 114, rfl⟩
abbrev main_cst_8 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_cst_9 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_cst_10 : Ref sig .tc := ⟨.hbm, 128, rfl⟩
abbrev main_v63 : Ref sig .tc := ⟨.hbm, 129, rfl⟩
abbrev main_v64 : Ref sig .tc := ⟨.hbm, 130, rfl⟩
abbrev main_cst_11 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_call4_v0 : Ref sig .tc := ⟨.hbm, 139, rfl⟩
abbrev main_call4_cst : Ref sig .tc := ⟨.hbm, 140, rfl⟩
abbrev main_call4_c : Ref sig .tc := ⟨.hbm, 141, rfl⟩
abbrev main_call4_v1_0 : Ref sig .tc := ⟨.hbm, 142, rfl⟩
abbrev main_v72 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_c_1 : Ref sig .tc := ⟨.hbm, 152, rfl⟩
abbrev main_call5_c_2 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_c_3 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_call5_cst : Ref sig .tc := ⟨.hbm, 164, rfl⟩
abbrev main_call5_v15 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_cst_12 : Ref sig .tc := ⟨.hbm, 171, rfl⟩
abbrev main_v78 : Ref sig .tc := ⟨.hbm, 172, rfl⟩
abbrev main_cst_13 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_cst_14 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_cst_15 : Ref sig .tc := ⟨.hbm, 186, rfl⟩
abbrev main_v90 : Ref sig .tc := ⟨.hbm, 187, rfl⟩
abbrev main_v91 : Ref sig .tc := ⟨.hbm, 188, rfl⟩
abbrev main_cst_16 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_call6_v0 : Ref sig .tc := ⟨.hbm, 197, rfl⟩
abbrev main_call6_cst : Ref sig .tc := ⟨.hbm, 198, rfl⟩
abbrev main_call6_c : Ref sig .tc := ⟨.hbm, 199, rfl⟩
abbrev main_call6_v1_0 : Ref sig .tc := ⟨.hbm, 200, rfl⟩
abbrev main_v99 : Ref sig .tc := ⟨.hbm, 201, rfl⟩
abbrev main_call7_c : Ref sig .tc := ⟨.hbm, 202, rfl⟩
abbrev main_call7_v0 : Ref sig .tc := ⟨.hbm, 203, rfl⟩
abbrev main_call7_v1 : Ref sig .tc := ⟨.hbm, 204, rfl⟩
abbrev main_call7_c_0 : Ref sig .tc := ⟨.hbm, 205, rfl⟩
abbrev main_call7_v2 : Ref sig .tc := ⟨.hbm, 206, rfl⟩
abbrev main_call7_v3 : Ref sig .tc := ⟨.hbm, 207, rfl⟩
abbrev main_call7_v4 : Ref sig .tc := ⟨.hbm, 208, rfl⟩
abbrev main_call7_v5 : Ref sig .tc := ⟨.hbm, 209, rfl⟩
abbrev main_call7_c_1 : Ref sig .tc := ⟨.hbm, 210, rfl⟩
abbrev main_call7_c_2 : Ref sig .tc := ⟨.hbm, 211, rfl⟩
abbrev main_call7_v6 : Ref sig .tc := ⟨.hbm, 212, rfl⟩
abbrev main_call7_v7 : Ref sig .tc := ⟨.hbm, 213, rfl⟩
abbrev main_call7_v8 : Ref sig .tc := ⟨.hbm, 214, rfl⟩
abbrev main_call7_v9 : Ref sig .tc := ⟨.hbm, 215, rfl⟩
abbrev main_call7_v10 : Ref sig .tc := ⟨.hbm, 216, rfl⟩
abbrev main_call7_v11 : Ref sig .tc := ⟨.hbm, 217, rfl⟩
abbrev main_call7_c_3 : Ref sig .tc := ⟨.hbm, 218, rfl⟩
abbrev main_call7_v12 : Ref sig .tc := ⟨.hbm, 219, rfl⟩
abbrev main_call7_v13 : Ref sig .tc := ⟨.hbm, 220, rfl⟩
abbrev main_call7_v14 : Ref sig .tc := ⟨.hbm, 221, rfl⟩
abbrev main_call7_cst : Ref sig .tc := ⟨.hbm, 222, rfl⟩
abbrev main_call7_v15 : Ref sig .tc := ⟨.hbm, 223, rfl⟩
abbrev main_v100 : Ref sig .tc := ⟨.hbm, 224, rfl⟩
abbrev main_v101 : Ref sig .tc := ⟨.hbm, 225, rfl⟩
abbrev main_v102 : Ref sig .tc := ⟨.hbm, 226, rfl⟩
abbrev main_v103 : Ref sig .tc := ⟨.hbm, 227, rfl⟩
abbrev main_v104 : Ref sig .tc := ⟨.hbm, 228, rfl⟩
abbrev main_cst_17 : Ref sig .tc := ⟨.hbm, 229, rfl⟩
abbrev main_v105 : Ref sig .tc := ⟨.hbm, 230, rfl⟩
abbrev main_cst_18 : Ref sig .tc := ⟨.hbm, 231, rfl⟩
abbrev main_v106 : Ref sig .tc := ⟨.hbm, 232, rfl⟩
abbrev main_v107 : Ref sig .tc := ⟨.hbm, 233, rfl⟩
abbrev main_v108 : Ref sig .tc := ⟨.hbm, 234, rfl⟩
abbrev main_v109 : Ref sig .tc := ⟨.hbm, 235, rfl⟩
abbrev main_v110 : Ref sig .tc := ⟨.hbm, 236, rfl⟩
abbrev main_v111 : Ref sig .tc := ⟨.hbm, 237, rfl⟩

abbrev nD : Nat := 1
abbrev τ : Topo := Topo.v7x

variable {F : FTy → Type} [FloatOps F]
-- ==== Proof.Body.lean ====
/-
  What the kernel's body leaves in each output's staging buffer, at the first grid point (where the two accumulated
  outputs are reset before they are updated) and at a later one, as the values the body computes from its input blocks.
-/
module

public import proofs.«01_k».proof.Proof.Gen.KernelIdeal.Frame
public import Idealize.ShloMosaic.Lib.Pipeline.Value

@[expose] public section

noncomputable section

namespace Cert.VQ

open Cert.KernelIdeal Cert.KernelIdeal.Gen Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Output 2 (the codes block) after the body at the first point. -/
theorem out_A_2 (c : Dev nD) (i : grid0.Coords)
    (a1 : Memref sig .tc .vmem S4608x128 .f32) (h1 : a1.IsWhole) (a2 : Memref sig .tc .vmem S1x1024x128 .f32) (h2 : a2.IsWhole)
    (a3 : Memref sig .tc .vmem S4608x128 .f32) (h3 : a3.IsWhole) (a4 : Memref sig .tc .vmem S4608x4 .i32) (h4 : a4.IsWhole)
    (a5 : Memref sig .tc .vmem S1x4 .f32) (h5 : a5.IsWhole)
    (hc0 : cond0_0 i) (hc1 : cond0_1 i) (x0 : Vec F S4608x128 .f32) (x1 : Vec F S1x1024x128 .f32) :
    out0_A_2 c i a1 h1 a2 h2 a3 h3 a4 h4 a5 h5 hc0 hc1 x0 x1 = k0_pay8 (k0_pay2 x1) (k0_pay7 x0 x1) := by
  unfold out0_A_2
  rw [View.read_writes_eq_canon _ _ _ (cover0_A_2 c i a1 h1 a2 h2 a3 h3 a4 h4 a5 h5 hc0 hc1 x0 x1)]
  unfold kernelRun0_A
  dsimp only
  sl_unfold_words
  rw [View.canon_unit_zero zeros2]
  simp only [View.readAt_eq_ld, h1.read_unread, h2.read_unread,
    View.ld_unit_zero (S := S4608x128) zeros2, View.ld_unit_zero (S := S1x1024x128) zeros3,
    View.ld_unit_zero (S := S4608x4) zeros2, View.ld_unit_zero (S := S1x4) zeros2]

/-- Output 3 (the indices) after the body at the first point. -/
theorem out_A_3 (c : Dev nD) (i : grid0.Coords)
    (a1 : Memref sig .tc .vmem S4608x128 .f32) (h1 : a1.IsWhole) (a2 : Memref sig .tc .vmem S1x1024x128 .f32) (h2 : a2.IsWhole)
    (a3 : Memref sig .tc .vmem S4608x128 .f32) (h3 : a3.IsWhole) (a4 : Memref sig .tc .vmem S4608x4 .i32) (h4 : a4.IsWhole)
    (a5 : Memref sig .tc .vmem S1x4 .f32) (h5 : a5.IsWhole)
    (hc0 : cond0_0 i) (hc1 : cond0_1 i) (x0 : Vec F S4608x128 .f32) (x1 : Vec F S1x1024x128 .f32) :
    out0_A_3 c i a1 h1 a2 h2 a3 h3 a4 h4 a5 h5 hc0 hc1 x0 x1 = k0_pay10 (F := F) (BitVec.ofNat 32 (i 0).val) (k0_pay6 x0 x1) k0_pay9 := by
  unfold out0_A_3
  rw [View.read_writes_eq_canon _ _ _ (cover0_A_3 c i a1 h1 a2 h2 a3 h3 a4 h4 a5 h5 hc0 hc1 x0 x1)]
  unfold kernelRun0_A
  dsimp only
  sl_unfold_words
  rw [View.canon_cons_unit_zero (S := S4608x4) zeros2, View.readCov_unit_zero (S := S4608x4) _ zeros2]
  simp only [View.readAt_eq_ld, h1.read_unread, h2.read_unread,
    View.ld_unit_zero (S := S4608x128) zeros2, View.ld_unit_zero (S := S1x1024x128) zeros3,
    View.ld_unit_zero (S := S4608x4) zeros2, View.ld_unit_zero (S := S1x4) zeros2]

/-- Output 4 (the commitment row) after the body at the first point. -/
theorem out_A_4 (c : Dev nD) (i : grid0.Coords)
    (a1 : Memref sig .tc .vmem S4608x128 .f32) (h1 : a1.IsWhole) (a2 : Memref sig .tc .vmem S1x1024x128 .f32) (h2 : a2.IsWhole)
    (a3 : Memref sig .tc .vmem S4608x128 .f32) (h3 : a3.IsWhole) (a4 : Memref sig .tc .vmem S4608x4 .i32) (h4 : a4.IsWhole)
    (a5 : Memref sig .tc .vmem S1x4 .f32) (h5 : a5.IsWhole)
    (hc0 : cond0_0 i) (hc1 : cond0_1 i) (x0 : Vec F S4608x128 .f32) (x1 : Vec F S1x1024x128 .f32) :
    out0_A_4 c i a1 h1 a2 h2 a3 h3 a4 h4 a5 h5 hc0 hc1 x0 x1 = k0_pay12 (BitVec.ofNat 32 (i 0).val) (k0_pay5 x0 x1) k0_pay11 := by
  unfold out0_A_4
  rw [View.read_writes_eq_canon _ _ _ (cover0_A_4 c i a1 h1 a2 h2 a3 h3 a4 h4 a5 h5 hc0 hc1 x0 x1)]
  unfold kernelRun0_A
  dsimp only
  sl_unfold_words
  rw [View.canon_cons_unit_zero (S := S1x4) zeros2, View.readCov_unit_zero (S := S1x4) _ zeros2]
  simp only [View.readAt_eq_ld, h1.read_unread, h2.read_unread,
    View.ld_unit_zero (S := S4608x128) zeros2, View.ld_unit_zero (S := S1x1024x128) zeros3,
    View.ld_unit_zero (S := S4608x4) zeros2, View.ld_unit_zero (S := S1x4) zeros2]

/-- Output 2 (the codes block) after the body at a later point. -/
theorem out_B_2 (c : Dev nD) (i : grid0.Coords)
    (a1 : Memref sig .tc .vmem S4608x128 .f32) (h1 : a1.IsWhole) (a2 : Memref sig .tc .vmem S1x1024x128 .f32) (h2 : a2.IsWhole)
    (a3 : Memref sig .tc .vmem S4608x128 .f32) (h3 : a3.IsWhole) (a4 : Memref sig .tc .vmem S4608x4 .i32) (h4 : a4.IsWhole)
    (a5 : Memref sig .tc .vmem S1x4 .f32) (h5 : a5.IsWhole)
    (hc0 : ¬cond0_0 i) (hc1 : ¬cond0_1 i) (x0 : Vec F S4608x128 .f32) (x1 : Vec F S1x1024x128 .f32) (xo3 : Vec F S4608x4 .i32) (xo4 : Vec F S1x4 .f32) :
    out0_B_2 c i a1 h1 a2 h2 a3 h3 a4 h4 a5 h5 hc0 hc1 x0 x1 xo3 xo4 = k0_pay8 (k0_pay2 x1) (k0_pay7 x0 x1) := by
  unfold out0_B_2
  rw [View.read_writes_eq_canon _ _ _ (cover0_B_2 c i a1 h1 a2 h2 a3 h3 a4 h4 a5 h5 hc0 hc1 x0 x1 xo3 xo4)]
  unfold kernelRun0_B
  dsimp only
  sl_unfold_words
  rw [View.canon_unit_zero zeros2]
  simp only [View.readAt_eq_ld, h1.read_unread, h2.read_unread, h4.read_unread, h5.read_unread,
    View.ld_unit_zero (S := S4608x128) zeros2, View.ld_unit_zero (S := S1x1024x128) zeros3,
    View.ld_unit_zero (S := S4608x4) zeros2, View.ld_unit_zero (S := S1x4) zeros2]

/-- Output 3 (the indices) after the body at a later point. -/
theorem out_B_3 (c : Dev nD) (i : grid0.Coords)
    (a1 : Memref sig .tc .vmem S4608x128 .f32) (h1 : a1.IsWhole) (a2 : Memref sig .tc .vmem S1x1024x128 .f32) (h2 : a2.IsWhole)
    (a3 : Memref sig .tc .vmem S4608x128 .f32) (h3 : a3.IsWhole) (a4 : Memref sig .tc .vmem S4608x4 .i32) (h4 : a4.IsWhole)
    (a5 : Memref sig .tc .vmem S1x4 .f32) (h5 : a5.IsWhole)
    (hc0 : ¬cond0_0 i) (hc1 : ¬cond0_1 i) (x0 : Vec F S4608x128 .f32) (x1 : Vec F S1x1024x128 .f32) (xo3 : Vec F S4608x4 .i32) (xo4 : Vec F S1x4 .f32) :
    out0_B_3 c i a1 h1 a2 h2 a3 h3 a4 h4 a5 h5 hc0 hc1 x0 x1 xo3 xo4 = k0_pay10 (F := F) (BitVec.ofNat 32 (i 0).val) (k0_pay6 x0 x1) xo3 := by
  unfold out0_B_3
  rw [View.read_writes_eq_canon _ _ _ (cover0_B_3 c i a1 h1 a2 h2 a3 h3 a4 h4 a5 h5 hc0 hc1 x0 x1 xo3 xo4)]
  unfold kernelRun0_B
  dsimp only
  sl_unfold_words
  rw [View.canon_unit_zero zeros2]
  simp only [View.readAt_eq_ld, h1.read_unread, h2.read_unread, h4.read_unread, h5.read_unread,
    View.ld_unit_zero (S := S4608x128) zeros2, View.ld_unit_zero (S := S1x1024x128) zeros3,
    View.ld_unit_zero (S := S4608x4) zeros2, View.ld_unit_zero (S := S1x4) zeros2]

/-- Output 4 (the commitment row) after the body at a later point. -/
theorem out_B_4 (c : Dev nD) (i : grid0.Coords)
    (a1 : Memref sig .tc .vmem S4608x128 .f32) (h1 : a1.IsWhole) (a2 : Memref sig .tc .vmem S1x1024x128 .f32) (h2 : a2.IsWhole)
    (a3 : Memref sig .tc .vmem S4608x128 .f32) (h3 : a3.IsWhole) (a4 : Memref sig .tc .vmem S4608x4 .i32) (h4 : a4.IsWhole)
    (a5 : Memref sig .tc .vmem S1x4 .f32) (h5 : a5.IsWhole)
    (hc0 : ¬cond0_0 i) (hc1 : ¬cond0_1 i) (x0 : Vec F S4608x128 .f32) (x1 : Vec F S1x1024x128 .f32) (xo3 : Vec F S4608x4 .i32) (xo4 : Vec F S1x4 .f32) :
    out0_B_4 c i a1 h1 a2 h2 a3 h3 a4 h4 a5 h5 hc0 hc1 x0 x1 xo3 xo4 = k0_pay12 (BitVec.ofNat 32 (i 0).val) (k0_pay5 x0 x1) xo4 := by
  unfold out0_B_4
  rw [View.read_writes_eq_canon _ _ _ (cover0_B_4 c i a1 h1 a2 h2 a3 h3 a4 h4 a5 h5 hc0 hc1 x0 x1 xo3 xo4)]
  unfold kernelRun0_B
  dsimp only
  sl_unfold_words
  rw [View.canon_unit_zero zeros2]
  simp only [View.readAt_eq_ld, h1.read_unread, h2.read_unread, h4.read_unread, h5.read_unread,
    View.ld_unit_zero (S := S4608x128) zeros2, View.ld_unit_zero (S := S1x1024x128) zeros3,
    View.ld_unit_zero (S := S4608x4) zeros2, View.ld_unit_zero (S := S1x4) zeros2]

end Cert.VQ

end
-- ==== Proof.Math.lean ====
/-
  The mathematics of one vector-quantisation block, over the real numbers: the score of a codebook row, the first row
  of greatest score, and what the extended-real folds, sums and quotients of a run come to when every input is real.
-/
module

public import Idealize.ShloMosaic.Lib.Pointwise

@[expose] public section

noncomputable section

namespace Cert.VQ

open Idealize.ShloMosaic

/-! ## Scores and the best row -/

/-- The score of codebook row `k` for the vector `z`: their inner product less half the row's squared length. -/
def score (z : Fin 128 → ℝ) (C : Fin 1024 → Fin 128 → ℝ) (k : Fin 1024) : ℝ :=
  (∑ d, z d * C k d) - 1 / 2 * ∑ d, C k d * C k d

/-- `b` is the first position at which `v` is greatest. -/
def IsFirstMax (v : Fin 1024 → ℝ) (b : Fin 1024) : Prop :=
  (∀ j, v j ≤ v b) ∧ ∀ j, v j = v b → b ≤ j

/-- There is a first position at which a family of reals is greatest. -/
theorem exists_isFirstMax (v : Fin 1024 → ℝ) : ∃ b, IsFirstMax v b := by
  obtain ⟨a, -, ha⟩ := Finset.exists_max_image (Finset.univ : Finset (Fin 1024)) v ⟨0, Finset.mem_univ _⟩
  have hne : ((Finset.univ : Finset (Fin 1024)).filter fun j => v j = v a).Nonempty := ⟨a, by simp⟩
  refine ⟨Finset.min' _ hne, ?_, ?_⟩
  · have hm := Finset.min'_mem _ hne
    simp only [Finset.mem_filter, Finset.mem_univ, true_and] at hm
    intro j; rw [hm]; exact ha j (Finset.mem_univ _)
  · have hm := Finset.min'_mem _ hne
    simp only [Finset.mem_filter, Finset.mem_univ, true_and] at hm
    intro j hj; rw [hm] at hj
    exact Finset.min'_le _ _ (by simp [hj])

/-- The first position of greatest value is unique. -/
theorem IsFirstMax.unique {v : Fin 1024 → ℝ} {a b : Fin 1024} (ha : IsFirstMax v a) (hb : IsFirstMax v b) : a = b := by
  have h : v a = v b := le_antisymm (hb.1 a) (ha.1 b)
  exact le_antisymm (ha.2 b h.symm) (hb.2 a h)

/-- The codebook row chosen for `z`: the first row of greatest score. -/
def best (z : Fin 128 → ℝ) (C : Fin 1024 → Fin 128 → ℝ) : Fin 1024 := (exists_isFirstMax (score z C)).choose

/-- The chosen row is the first of greatest score. -/
theorem best_spec (z : Fin 128 → ℝ) (C : Fin 1024 → Fin 128 → ℝ) : IsFirstMax (score z C) (best z C) :=
  (exists_isFirstMax (score z C)).choose_spec

/-- The squared distance of `z` to its chosen row. -/
def resid (z : Fin 128 → ℝ) (C : Fin 1024 → Fin 128 → ℝ) : ℝ :=
  ∑ d, (z d - C (best z C) d) * (z d - C (best z C) d)

/-- A squared distance, expanded: the squared length of `z` less twice the row's score. -/
theorem sqdist_eq (z : Fin 128 → ℝ) (C : Fin 1024 → Fin 128 → ℝ) (k : Fin 1024) :
    ∑ d, (z d - C k d) * (z d - C k d) = (∑ d, z d * z d) - 2 * score z C k := by
  have h : ∀ d, (z d - C k d) * (z d - C k d) = z d * z d - 2 * (z d * C k d) + C k d * C k d := fun d => by ring
  simp only [h, Finset.sum_add_distrib, Finset.sum_sub_distrib, ← Finset.mul_sum, score]
  ring

/-- The squared distance to the chosen row, by its score. -/
theorem resid_eq (z : Fin 128 → ℝ) (C : Fin 1024 → Fin 128 → ℝ) :
    resid z C = (∑ d, z d * z d) - 2 * score z C (best z C) := sqdist_eq z C _

/-- The distance as the reference writes it, `|z|² − 2 z·c + |c|²`, by the score. -/
theorem dist_eq (z : Fin 128 → ℝ) (C : Fin 1024 → Fin 128 → ℝ) (k : Fin 1024) :
    (∑ d, z d * z d) - 2 * (∑ d, z d * C k d) + ∑ d, C k d * C k d = (∑ d, z d * z d) - 2 * score z C k := by
  unfold score; ring

/-! ## Sums and folds of reals among the extended reals -/

/-- A finite sum of reals is the same sum taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of a family of reals, folded from below everything, is its value at a position of greatest value. -/
theorem fold_max_coe (v : Fin 1024 → ℝ) (b : Fin 1024) (h : ∀ j, v j ≤ v b) :
    Finset.fold max (⊥ : EReal) (fun k => ((v k : ℝ) : EReal)) Finset.univ = ((v b : ℝ) : EReal) := by
  apply le_antisymm
  · rw [Finset.fold_max_le]
    exact ⟨bot_le, fun j _ => EReal.coe_le_coe_iff.mpr (h j)⟩
  · rw [Finset.le_fold_max]
    exact Or.inr ⟨b, Finset.mem_univ _, le_rfl⟩

/-- The least lane number among the lanes of greatest value, the other lanes counting 1024, is the first position of
    greatest value. -/
theorem fold_min_first (v : Fin 1024 → ℝ) (b : Fin 1024) (h : IsFirstMax v b) :
    Finset.fold min (⊤ : EReal)
      (fun k : Fin 1024 => if ((v k : ℝ) : EReal) = ((v b : ℝ) : EReal) then (((k.val : ℕ) : ℝ) : EReal) else ((1024 : ℝ) : EReal))
      Finset.univ = (((b.val : ℕ) : ℝ) : EReal) := by
  apply le_antisymm
  · rw [Finset.fold_min_le]
    exact Or.inr ⟨b, Finset.mem_univ _, by simp⟩
  · rw [Finset.le_fold_min]
    refine ⟨le_top, fun k _ => ?_⟩
    split_ifs with hk
    · have := h.2 k (EReal.coe_injective hk)
      exact EReal.coe_le_coe_iff.mpr (by exact_mod_cast this)
    · have := b.isLt
      exact EReal.coe_le_coe_iff.mpr (by exact_mod_cast this.le)

/-! ## The constants of the two programs, as extended reals -/

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_lanes : Ideal.ofBits .f32 0x44800000#32 = ((1024 : ℝ) : EReal) := by
  simp [Ideal.ofBits, Ideal.ieee, -EReal.coe_mul]; norm_num
theorem ofBits_count : Ideal.ofBits .f32 0x49100000#32 = ((589824 : ℝ) : EReal) := by
  simp [Ideal.ofBits, Ideal.ieee, -EReal.coe_mul]; norm_num
theorem ofBits_ninf : Ideal.ofBits .f32 0xFF800000#32 = ⊥ := by simp [Ideal.ofBits, Ideal.ieee]
theorem ofBits_inf : Ideal.ofBits .f32 0x7F800000#32 = ⊤ := by simp [Ideal.ofBits, Ideal.ieee]

/-- A real below `2^31` that is a natural number converts to that number's word. -/
theorem fptosi_nat (n : ℕ) (hn : n < 2 ^ 31) : Ideal.fptosi 32 (((n : ℕ) : ℝ) : EReal) = BitVec.ofNat 32 n := by
  have h : Ideal.toIntClamped (-(2 ^ (32 - 1) : ℕ)) ((2 ^ (32 - 1) : ℕ) - 1) (((n : ℕ) : ℝ) : EReal) = (n : ℤ) := by
    show max _ (min _ (if (0 : ℝ) ≤ ((n : ℕ) : ℝ) then ⌊((n : ℕ) : ℝ)⌋ else ⌈((n : ℕ) : ℝ)⌉)) = (n : ℤ)
    rw [if_pos (Nat.cast_nonneg n), Int.floor_natCast]
    omega
  unfold Ideal.fptosi
  rw [h, BitVec.ofInt_natCast]

/-- A quotient of reals by a nonzero real is the real quotient. -/
theorem div_coe' (a b : ℝ) (hb : b ≠ 0) : Ideal.div (a : EReal) (b : EReal) = ((a / b : ℝ) : EReal) := by
  unfold Ideal.div
  rw [if_neg (fun h => hb (EReal.coe_injective (h.trans EReal.coe_zero.symm))), ← EReal.coe_inv, ← EReal.coe_mul, div_eq_mul_inv]

end Cert.VQ

end
-- ==== Proof.Payload.lean ====
/-
  What the kernel's body computes from one block, read at an index, when the block's vectors `z` and the codebook
  block `C` are real: each value the body stores is named by the mathematics of Math.lean.
-/
module

public import proofs.«01_k».proof.Proof.Gen.KernelIdeal.Skeleton
public import proofs.«01_k».proof.Proof.Gen.KernelIdeal
public import Idealize.ShloMosaic.Lib.Pointwise
public import Idealize.ShloMosaic.Lib.ValueIdx
public import Idealize.ShloMosaic.Lib.StableHlo.Predicate
public import proofs.«01_k».proof.Proof.Math

@[expose] public section

noncomputable section

namespace Cert.VQ

open Cert.KernelIdeal Cert.KernelIdeal.Gen Idealize.ShloMosaic Idealize.ShloMosaic.Pointwise

/-- The score sum over 136 columns: 128 products, the constant-one column against the negated half square, seven zeros. -/
theorem sum_aug (z c : Fin 128 → ℝ) :
    (∑ x : Fin 136,
      (if h : x.val < 128 then ((z ⟨x.val, h⟩ : ℝ) : EReal)
        else FloatOps.sitofp (F := Ideal) .f32 (BitVec.setWidth 32 (IntOp.cmpi .eq (BitVec.ofNat 32 (x.val - 128)) 0#32)))
      * (if h : x.val < 128 then ((c ⟨x.val, h⟩ : ℝ) : EReal)
        else if x.val - 128 < 1 then 0 - Ideal.ofBits .f32 0x3F000000#32 * ∑ d : Fin 128, ((c d : ℝ) : EReal) * ((c d : ℝ) : EReal)
          else 0))
      = (((∑ d, z d * c d) - 1 / 2 * ∑ d, c d * c d : ℝ) : EReal) := by
  have hs : (∑ d : Fin 128, ((c d : ℝ) : EReal) * ((c d : ℝ) : EReal)) = ((∑ d, c d * c d : ℝ) : EReal) := by
    rw [coe_sum]; exact Finset.sum_congr rfl fun d _ => (EReal.coe_mul _ _).symm
  rw [hs, ofBits_half, ← EReal.coe_mul, ← EReal.coe_zero, ← EReal.coe_sub]
  rw [show (136 : ℕ) = 128 + 8 from rfl, Fin.sum_univ_add, Fin.sum_univ_eight]
  have h1 : ∀ i : Fin 128, (Fin.castAdd 8 i).val < 128 := fun i => i.isLt
  have h2 : ∀ i : Fin 8, ¬ (Fin.natAdd 128 i).val < 128 := fun i => by simp
  simp only [h1, h2, dif_pos, dif_neg, not_false_eq_true]
  have hb : ∀ i : Fin 128, (⟨(Fin.castAdd 8 i).val, h1 i⟩ : Fin 128) = i := fun i => rfl
  have hc : ∀ i : Fin 128, ((z ⟨(Fin.castAdd 8 i).val, h1 i⟩ : ℝ) : EReal) * ((c ⟨(Fin.castAdd 8 i).val, h1 i⟩ : ℝ) : EReal)
      = ((z i * c i : ℝ) : EReal) := fun i => (EReal.coe_mul _ _).symm
  simp only [hb, ← EReal.coe_mul, ← coe_sum]
  simp [FloatOps.sitofp, IntOp.cmpi]
  exact (sub_eq_add_neg _ _).symm

/-- A score of the kernel: the augmented inner product is the score of Math.lean. -/
theorem pay3_apply (z : Fin 4608 → Fin 128 → ℝ) (C : Fin 1024 → Fin 128 → ℝ) (v0 : Vec Ideal S4608x128 .f32)
    (v2 : Vec Ideal S1x1024x128 .f32) (hz : ∀ r d, v0 (ix2 r d) = ((z r d : ℝ) : EReal))
    (hC : ∀ k d, v2 (ix3 0 k d) = ((C k d : ℝ) : EReal)) (r : Fin 4608) (k : Fin 1024) :
    k0_pay3 v0 v2 (ix2 r k) = ((score (z r) C k : ℝ) : EReal) := by
  pointwise [k0_pay3, k0_pay1, k0_pay2]
  simp only [hz, hC]
  exact sum_aug (z r) (C k)

/-- A row's greatest score. -/
theorem pay4_apply (z : Fin 4608 → Fin 128 → ℝ) (C : Fin 1024 → Fin 128 → ℝ) (v0 : Vec Ideal S4608x128 .f32)
    (v2 : Vec Ideal S1x1024x128 .f32) (hz : ∀ r d, v0 (ix2 r d) = ((z r d : ℝ) : EReal))
    (hC : ∀ k d, v2 (ix3 0 k d) = ((C k d : ℝ) : EReal)) (r : Fin 4608) :
    k0_pay4 v0 v2 (ix1 r) = ((score (z r) C (best (z r) C) : ℝ) : EReal) := by
  pointwise [k0_pay4]
  simp only [pay3_apply z C v0 v2 hz hC, ofBits_ninf]
  exact fold_max_coe _ _ (best_spec (z r) C).1

/-- A row's squared length less twice its greatest score is its squared distance to the chosen codebook row. -/
theorem pay5_apply (z : Fin 4608 → Fin 128 → ℝ) (C : Fin 1024 → Fin 128 → ℝ) (v0 : Vec Ideal S4608x128 .f32)
    (v2 : Vec Ideal S1x1024x128 .f32) (hz : ∀ r d, v0 (ix2 r d) = ((z r d : ℝ) : EReal))
    (hC : ∀ k d, v2 (ix3 0 k d) = ((C k d : ℝ) : EReal)) (r : Fin 4608) :
    k0_pay5 v0 v2 (ix1 r) = ((resid (z r) C : ℝ) : EReal) := by
  have key : ∀ p : FVec Ideal S4608 .f32,
      subf (multiReduction .add [1] S4608 (mulf (k0_pay1 v0) (k0_pay1 v0)) 0x00000000#32 reduces_S4608x128_S4608 (.inl rfl) rfl)
        (mulf (broadcast S4608 (Scalar.ofBits .f32 0x40000000#32)) p) (ix1 r)
      = (∑ d : Fin 128, v0 (ix2 r d) * v0 (ix2 r d)) - Ideal.ofBits .f32 0x40000000#32 * p (ix1 r) := by
    intro p
    pointwise [k0_pay1]
  refine (key (k0_pay4 v0 v2)).trans ?_
  rw [pay4_apply z C v0 v2 hz hC]
  simp only [hz, ofBits_two, ← EReal.coe_mul, ← coe_sum, ← EReal.coe_sub, ← resid_eq]

/-- The word of the chosen row's number: the least lane at which the row's score is the greatest. -/
theorem pay6_apply (z : Fin 4608 → Fin 128 → ℝ) (C : Fin 1024 → Fin 128 → ℝ) (v0 : Vec Ideal S4608x128 .f32)
    (v2 : Vec Ideal S1x1024x128 .f32) (hz : ∀ r d, v0 (ix2 r d) = ((z r d : ℝ) : EReal))
    (hC : ∀ k d, v2 (ix3 0 k d) = ((C k d : ℝ) : EReal)) (r : Fin 4608) :
    k0_pay6 v0 v2 (ix1 r) = BitVec.ofNat 32 (best (z r) C).val := by
  have key : ∀ (p3 : FVec Ideal S4608x1024 .f32) (p4 : FVec Ideal S4608 .f32),
      (fptosi 32 (multiReduction .minimumf [1] S4608
          (select (cmpf .oeq p3 (broadcastTo S4608x1024 (shapeCast S4608x1 p4 shapeCasts_S4608_S4608x1) broadcasts_S4608x1_S4608x1024))
            (broadcastTo S4608x1024 (shapeCast S1x1024 (sitofp .f32 (iota .tc S1x1024 32 [1] iota_S1x1024_d1_w32) : FVec Ideal S1x1024 .f32) shapeCasts_S1x1024_S1x1024)
              broadcasts_S1x1024_S4608x1024)
            (broadcast S4608x1024 (Scalar.ofBits (F := Ideal) .f32 0x44800000#32)))
          0x7F800000#32 reduces_S4608x1024_S4608 (.inl rfl) rfl) : IVec S4608 32) (ix1 r)
      = FloatOps.fptosi (F := Ideal) (φ := .f32) 32
          (Finset.fold min (Ideal.ofBits .f32 0x7F800000#32)
            (fun x : Fin 1024 => if p3 (ix2 r x) = p4 (ix1 r) then FloatOps.sitofp (F := Ideal) .f32 (BitVec.ofNat 32 x.val)
              else Ideal.ofBits .f32 0x44800000#32) Finset.univ) := by
    intro p3 p4
    pointwise
  refine (key (k0_pay3 v0 v2) (k0_pay4 v0 v2)).trans ?_
  rw [pay4_apply z C v0 v2 hz hC]
  simp only [pay3_apply z C v0 v2 hz hC, ofBits_inf, ofBits_lanes]
  have hl : ∀ x : Fin 1024, FloatOps.sitofp (F := Ideal) .f32 (BitVec.ofNat 32 x.val) = (((x.val : ℕ) : ℝ) : EReal) := by
    intro x
    show (((BitVec.ofNat 32 x.val).toInt : ℝ) : EReal) = _
    rw [StableHlo.Predicate.toInt_ofNat_small _ (by omega)]; norm_cast
  simp only [hl]
  rw [fold_min_first _ _ (best_spec (z r) C)]
  exact fptosi_nat _ (by have := (best (z r) C).isLt; omega)

/-- The one-hot mask: set exactly at the chosen row's lane. -/
theorem pay7_apply (z : Fin 4608 → Fin 128 → ℝ) (C : Fin 1024 → Fin 128 → ℝ) (v0 : Vec Ideal S4608x128 .f32)
    (v2 : Vec Ideal S1x1024x128 .f32) (hz : ∀ r d, v0 (ix2 r d) = ((z r d : ℝ) : EReal))
    (hC : ∀ k d, v2 (ix3 0 k d) = ((C k d : ℝ) : EReal)) (r : Fin 4608) (k : Fin 1024) :
    k0_pay7 v0 v2 (ix2 r k) = if k = best (z r) C then 1#1 else 0#1 := by
  have key : ∀ p6 : IVec S4608 32,
      cmpi .eq (broadcastTo S4608x1024 (iota .tc S1x1024 32 [1] iota_S1x1024_d1_w32) broadcasts_S1x1024_S4608x1024)
        (broadcastTo S4608x1024 (shapeCast S4608x1 p6 shapeCasts_S4608_S4608x1) broadcasts_S4608x1_S4608x1024) (ix2 r k)
      = IntOp.cmpi .eq (BitVec.ofNat 32 k.val) (p6 (ix1 r)) := by
    intro p6
    pointwise
  refine (key (k0_pay6 v0 v2)).trans ?_
  rw [pay6_apply z C v0 v2 hz hC]
  have hk := k.isLt
  have hb := (best (z r) C).isLt
  split_ifs with h
  · rw [h]; exact StableHlo.Predicate.cmpi_eq_iff.mpr rfl
  · refine ValueIdx.eq_zero_of_ne_one fun e => h (Fin.ext ?_)
    have e' := congrArg BitVec.toNat (StableHlo.Predicate.cmpi_eq_iff.mp e)
    simp only [BitVec.toNat_ofNat] at e'
    omega

/-- The codes the kernel stores: the chosen codebook row, picked out by the one-hot product. -/
theorem pay8_apply (z : Fin 4608 → Fin 128 → ℝ) (C : Fin 1024 → Fin 128 → ℝ) (v0 : Vec Ideal S4608x128 .f32)
    (v2 : Vec Ideal S1x1024x128 .f32) (hz : ∀ r d, v0 (ix2 r d) = ((z r d : ℝ) : EReal))
    (hC : ∀ k d, v2 (ix3 0 k d) = ((C k d : ℝ) : EReal)) (r : Fin 4608) (d : Fin 128) :
    k0_pay8 (k0_pay2 v2) (k0_pay7 v0 v2) (ix2 r d) = ((C (best (z r) C) d : ℝ) : EReal) := by
  have key : ∀ (p2 : FVec Ideal S1024x128 .f32) (p7 : IVec S4608x1024 1), k0_pay8 p2 p7 (ix2 r d)
      = ∑ x : Fin 1024, FloatOps.sitofp (F := Ideal) .f32 (BitVec.setWidth 32 (p7 (ix2 r x))) * p2 (ix2 x d) := by
    intro p2 p7
    pointwise [k0_pay8]
  have h2 : ∀ x : Fin 1024, k0_pay2 v2 (ix2 x d) = v2 (ix3 0 x d) := by
    intro x
    pointwise [k0_pay2]
  rw [key]
  simp only [pay7_apply z C v0 v2 hz hC, h2, hC]
  rw [Finset.sum_eq_single (best (z r) C)]
  · rw [if_pos rfl]
    show (((BitVec.setWidth 32 1#1).toInt : ℝ) : EReal) * _ = _
    rw [show (BitVec.setWidth 32 1#1).toInt = 1 from by decide]; simp
  · intro x _ hx
    rw [if_neg hx]
    show (((BitVec.setWidth 32 0#1).toInt : ℝ) : EReal) * _ = _
    rw [show (BitVec.setWidth 32 0#1).toInt = 0 from by decide]; simp
  · intro h; exact absurd (Finset.mem_univ _) h

/-- The indices the kernel stores at block `a`: column `a` takes the chosen rows' numbers, the others keep theirs. -/
theorem pay10_apply (a : BitVec 32) (v38 : IVec S4608 32) (v56 : Vec Ideal S4608x4 .i32) (r : Fin 4608) (k : Fin 4) :
    k0_pay10 (F := Ideal) a v38 v56 (ix2 r k) = if BitVec.ofNat 32 k.val = a then v38 (ix1 r) else v56 (ix2 r k) := by
  have key : k0_pay10 (F := Ideal) a v38 v56 (ix2 r k)
      = Scalar.select (IntOp.cmpi .eq (BitVec.ofNat 32 k.val) a) (v38 (ix1 r)) (v56 (ix2 r k)) := by
    pointwise [k0_pay10]
  rw [key]
  split_ifs with h
  · rw [StableHlo.Predicate.cmpi_eq_iff.mpr h]; rfl
  · rw [ValueIdx.eq_zero_of_ne_one (mt StableHlo.Predicate.cmpi_eq_iff.mp h)]; rfl

/-- The commitment row the kernel stores at block `a`: lane `a` takes the mean of `p`, the others keep theirs. -/
theorem pay12_apply (a : BitVec 32) (p : FVec Ideal S4608 .f32) (v75 : Vec Ideal S1x4 .f32) (f : Fin 4608 → ℝ)
    (hf : ∀ r, p (ix1 r) = ((f r : ℝ) : EReal)) (k : Fin 4) :
    k0_pay12 (F := Ideal) a p v75 (ix2 0 k)
      = if BitVec.ofNat 32 k.val = a then (((∑ r, f r) / 589824 : ℝ) : EReal) else v75 (ix2 0 k) := by
  have key : k0_pay12 (F := Ideal) a p v75 (ix2 0 k)
      = Scalar.select (IntOp.cmpi .eq (BitVec.ofNat 32 k.val) a)
          (Ideal.div (∑ r : Fin 4608, p (ix1 r)) (Ideal.ofBits .f32 0x49100000#32)) (v75 (ix2 0 k)) := by
    pointwise [k0_pay12]
  rw [key]
  simp only [hf, ofBits_count, ← coe_sum]
  rw [div_coe' _ _ (by norm_num)]
  split_ifs with h
  · rw [StableHlo.Predicate.cmpi_eq_iff.mpr h]; rfl
  · rw [ValueIdx.eq_zero_of_ne_one (mt StableHlo.Predicate.cmpi_eq_iff.mp h)]; rfl

end Cert.VQ

end
-- ==== Proof.KernelValue.lean ====
/-
  What the kernel leaves in its three results, index by index, when its arguments are real: each result named by the
  mathematics of Math.lean.
-/
module

public import proofs.«01_k».proof.Proof.Body
public import proofs.«01_k».proof.Proof.Payload
public import Idealize.ShloMosaic.Lib.StableHlo.RunRead

@[expose] public section

noncomputable section

namespace Cert.VQ

open Cert.KernelIdeal Cert.KernelIdeal.Gen Idealize.ShloMosaic Idealize.ShloMosaic.TcCoe Idealize.ShloMosaic.Pointwise
open Idealize.SL Idealize.SL.Sem
open Idealize.ShloMosaic.Pipeline (Dat)

/-- Group `i` of row `(b, n)` of the input: its 128 entries. -/
def vec (X : Fin 8 → Fin 576 → Fin 512 → ℝ) (i : Fin 4) (b : Fin 8) (n : Fin 576) : Fin 128 → ℝ :=
  fun d => X b n ⟨128 * i.val + d.val, by omega⟩

/-- The batch entry of row `r` of the flattened input. -/
def rowB (r : Fin 4608) : Fin 8 := ⟨r.val / 576, by omega⟩
/-- The place of row `r` of the flattened input in its batch entry. -/
def rowN (r : Fin 4608) : Fin 576 := ⟨r.val % 576, by omega⟩

/-- The rows of group `i`, flattened. -/
def rows (X : Fin 8 → Fin 576 → Fin 512 → ℝ) (i : Fin 4) : Fin 4608 → Fin 128 → ℝ := fun r => vec X i (rowB r) (rowN r)

/-- The mean of the squared distances of group `i`. -/
def loss (X : Fin 8 → Fin 576 → Fin 512 → ℝ) (K : Fin 4 → Fin 1024 → Fin 128 → ℝ) (i : Fin 4) : ℝ :=
  (∑ r, resid (rows X i r) (K i)) / 589824

variable (m : (ℓ : Loc nD τ sig) → Buf (Elt Ideal) ℓ)
variable (X : Fin 8 → Fin 576 → Fin 512 → ℝ) (K : Fin 4 → Fin 1024 → Fin 128 → ℝ)

/-- The arguments of the kernel's program are the real arrays `X` and `K`. -/
def IsArgs (c : Dev nD) : Prop :=
  (∀ b n j, m ((c : Thread nD τ).loc main_arg0) (ix3 b n j) = ((X b n j : ℝ) : EReal))
  ∧ ∀ i k d, m ((c : Thread nD τ).loc main_arg1) (ix3 i k d) = ((K i k d : ℝ) : EReal)

/-- Grid point `t` as a group number. -/
def grp (t : Fin cfg0.N) : Fin 4 := ⟨t.val, lt_of_lt_of_eq t.isLt N_0⟩

/-- Flattening reads row `r` at its batch entry and its place there. -/
theorem flat_apply (x : Vec Ideal S8x576x512 .f32) (hs : S8x576x512.ShapeCasts S4608x512) (r : Fin 4608) (j : Fin 512) :
    shapeCast S4608x512 x hs (ix2 r j) = x (ix3 (rowB r) (rowN r) j) := by
  pointwise []
  rfl

/-- The flattened input the region finds. -/
theorem V_flat (c : Dev nD) (h : IsArgs m X K c) (r : Fin 4608) (j : Fin 512) :
    V m c main_call0_v0 (ix2 r j) = ((X (rowB r) (rowN r) j : ℝ) : EReal) := by
  have e : V m c main_call0_v0 = shapeCast S4608x512 (m ((c : Thread nD τ).loc main_arg0)) shapeCasts_S8x576x512_S4608x512 := by
    show StableHlo.after hostOps0 _ _ = _
    after_results
    rfl
  rw [e, flat_apply, h.1]

/-- What window 0 shows at point `t`: the rows of group `t`. -/
theorem iblk0 (c : Dev nD) (h : IsArgs m X K c) (t : Fin cfg0.N) (r : Fin 4608) (d : Fin 128) :
    (iblk m c 0 t : Vec Ideal S4608x128 .f32) (ix2 r d) = ((rows X (grp t) r d : ℝ) : EReal) := by
  have hi : win0_0.index t 0 = 0 ∧ win0_0.index t 1 = t.val := by
    rcases fin_N0 t with rfl | rfl | rfl | rfl <;> decide
  refine Eq.trans ?_ (V_flat m X K c h r ⟨128 * t.val + d.val, by have : cfg0.N = 4 := N_0; omega⟩)
  unfold iblk
  rw [View.read_apply]
  show V m c main_call0_v0 _ = V m c main_call0_v0 _
  congr 1
  funext a
  apply Fin.ext
  match a with
  | ⟨0, _⟩ => show win0_0.index t 0 * 4608 + 1 * r.val = r.val; rw [hi.1]; omega
  | ⟨1, _⟩ => show win0_0.index t 1 * 128 + 1 * d.val = 128 * t.val + d.val; rw [hi.2]; omega

/-- What window 1 shows at point `t`: codebook `t`. -/
theorem iblk1 (c : Dev nD) (h : IsArgs m X K c) (t : Fin cfg0.N) (k : Fin 1024) (d : Fin 128) :
    (iblk m c 1 t : Vec Ideal S1x1024x128 .f32) (ix3 0 k d) = ((K (grp t) k d : ℝ) : EReal) := by
  have hi : win0_1.index t 0 = t.val ∧ win0_1.index t 1 = 0 ∧ win0_1.index t 2 = 0 := by
    rcases fin_N0 t with rfl | rfl | rfl | rfl <;> decide
  refine Eq.trans ?_ ((congrFun (V_main_arg1 m c) _).trans (h.2 (grp t) k d))
  unfold iblk
  rw [View.read_apply]
  show V m c main_arg1 _ = V m c main_arg1 _
  congr 1
  funext a
  apply Fin.ext
  match a with
  | ⟨0, _⟩ => show win0_1.index t 0 * 1 + 1 * 0 = t.val; rw [hi.1]; omega
  | ⟨1, _⟩ => show win0_1.index t 1 * 1024 + 1 * k.val = k.val; rw [hi.2.1]; omega
  | ⟨2, _⟩ => show win0_1.index t 2 * 128 + 1 * d.val = d.val; rw [hi.2.2]; omega

/-- The grid coordinate of point `t` is `t`. -/
theorem coord0 (t : Fin cfg0.N) : (grid0.coords t 0).val = t.val := by
  have e : (grid0.coords t 0).val = t.val / 1 % 4 := Pipeline.Grid.coords_val t 0 (by decide) rfl
  have : cfg0.N = 4 := N_0
  omega

/-- The codes block after every point. -/
theorem outs_codes (c : Dev nD) (t : Fin cfg0.N) :
    (outsAt0 m c t.val t.isLt).1 = k0_pay8 (k0_pay2 (iblk m c 1 t)) (k0_pay7 (iblk m c 0 t) (iblk m c 1 t)) := by
  by_cases h : t.val % 4 = 0
  · rw [congrArg (fun p => p.1) (outsAt0_A m c t h h)]
    dsimp only
    rw [out_A_2]
  · rw [congrArg (fun p => p.1) (outsAt0_B m c t h h)]
    dsimp only
    rw [out_B_2]

/-- The indices after point `n`: columns `0 … n` hold the winners of their groups. -/
theorem outs_inds (c : Dev nD) (h : IsArgs m X K c) : ∀ (n : ℕ) (hn : n < cfg0.N) (r : Fin 4608) (k : Fin 4), k.val ≤ n →
    (outsAt0 m c n hn).2.1 (ix2 r k) = BitVec.ofNat 32 (best (rows X k r) (K k)).val
  | 0, hn, r, k, hk => by
    have ht := coord0 ⟨0, hn⟩
    obtain rfl : k = grp ⟨0, hn⟩ := Fin.ext (Nat.le_zero.mp hk)
    rw [congrArg (fun p => p.2.1) (outsAt0_A m c ⟨0, hn⟩ rfl rfl)]
    dsimp only
    rw [out_A_3, pay10_apply, if_pos (by rw [ht]; rfl)]
    exact pay6_apply _ _ _ _ (iblk0 m X K c h ⟨0, hn⟩) (iblk1 m X K c h ⟨0, hn⟩) r
  | n + 1, hn, r, k, hk => by
    have hN : cfg0.N = 4 := N_0
    have ht := coord0 ⟨n + 1, hn⟩
    have hB : ¬(⟨n + 1, hn⟩ : Fin cfg0.N).val % 4 = 0 := by dsimp only; omega
    rw [congrArg (fun p => p.2.1) (outsAt0_B m c ⟨n + 1, hn⟩ hB hB)]
    dsimp only
    rw [out_B_3, pay10_apply, ht]
    by_cases hk' : k.val = n + 1
    · obtain rfl : k = grp ⟨n + 1, hn⟩ := Fin.ext hk'
      rw [if_pos (by rfl)]
      exact pay6_apply _ _ _ _ (iblk0 m X K c h ⟨n + 1, hn⟩) (iblk1 m X K c h ⟨n + 1, hn⟩) r
    · rw [if_neg (fun e => hk' (by
        have := congrArg BitVec.toNat e
        simp only [BitVec.toNat_ofNat] at this
        omega))]
      exact outs_inds c h n _ r k (by omega)

/-- The losses after point `n`: lanes `0 … n` hold the losses of their groups. -/
theorem outs_comm (c : Dev nD) (h : IsArgs m X K c) : ∀ (n : ℕ) (hn : n < cfg0.N) (k : Fin 4), k.val ≤ n →
    (outsAt0 m c n hn).2.2 (ix2 0 k) = ((loss X K k : ℝ) : EReal)
  | 0, hn, k, hk => by
    have ht := coord0 ⟨0, hn⟩
    obtain rfl : k = grp ⟨0, hn⟩ := Fin.ext (Nat.le_zero.mp hk)
    rw [congrArg (fun p => p.2.2) (outsAt0_A m c ⟨0, hn⟩ rfl rfl)]
    dsimp only
    rw [out_A_4, pay12_apply _ _ _ _ (pay5_apply _ _ _ _ (iblk0 m X K c h ⟨0, hn⟩) (iblk1 m X K c h ⟨0, hn⟩)), if_pos (by rw [ht]; rfl)]
    rfl
  | n + 1, hn, k, hk => by
    have hN : cfg0.N = 4 := N_0
    have ht := coord0 ⟨n + 1, hn⟩
    have hB : ¬(⟨n + 1, hn⟩ : Fin cfg0.N).val % 4 = 0 := by dsimp only; omega
    rw [congrArg (fun p => p.2.2) (outsAt0_B m c ⟨n + 1, hn⟩ hB hB)]
    dsimp only
    rw [out_B_4, pay12_apply _ _ _ _ (pay5_apply _ _ _ _ (iblk0 m X K c h ⟨n + 1, hn⟩) (iblk1 m X K c h ⟨n + 1, hn⟩)), ht]
    by_cases hk' : k.val = n + 1
    · obtain rfl : k = grp ⟨n + 1, hn⟩ := Fin.ext hk'
      rw [if_pos (by rfl)]
      rfl
    · rw [if_neg (fun e => hk' (by
        have := congrArg BitVec.toNat e
        simp only [BitVec.toNat_ofNat] at this
        omega))]
      exact outs_comm c h n _ k (by omega)

/-- The group of column `j`. -/
def colI (j : Fin 512) : Fin 4 := ⟨j.val / 128, by omega⟩
/-- The place of column `j` in its group. -/
def colD (j : Fin 512) : Fin 128 := ⟨j.val % 128, by omega⟩

/-- The codes of the flattened rows: each row's group replaced by its nearest codebook row. -/
theorem final_codes (c : Dev nD) (h : IsArgs m X K c) (r : Fin 4608) (j : Fin 512) :
    (dats m 0 c).arrAt 2 cfg0.N (ix2 r j) = ((K (colI j) (best (rows X (colI j) r) (K (colI j))) (colD j) : ℝ) : EReal) := by
  have inj : ∀ t t' : Fin cfg0.N, win0_2.index t = win0_2.index t' → t = t' :=
    (by decide +kernel : ∀ t t' : Fin grid0.N, win0_2.index t = win0_2.index t' → t = t')
  have dis : ∀ t t' : Fin cfg0.N, (cfg0.win 2).flush t = true → (cfg0.win 2).flush t' = true → t ≠ t' →
      Disjoint ((cfg0.win 2).blk t).view.set ((cfg0.win 2).blk t').view.set :=
    fun t t' _ _ hne => (cfg0.win 2).disjoint_blk fun h => hne (inj t t' h)
  have hN : cfg0.N = 4 := N_0
  obtain ⟨t, ht⟩ : ∃ t : Fin cfg0.N, t.val = j.val / 128 := ⟨⟨j.val / 128, by omega⟩, rfl⟩
  have hi : win0_2.index t 0 = 0 ∧ win0_2.index t 1 = t.val := by
    rcases fin_N0 t with rfl | rfl | rfl | rfl <;> decide
  have hg : colI j = grp t := Fin.ext ht.symm
  have hb := (dats m 0 c).read_blk_arrAt_eq_flushed 2 dis cfg0.N t t.isLt (flush0_2 t)
  have hb' := congrFun hb (ix2 r (colD j))
  rw [View.read_apply] at hb'
  refine Eq.trans (congrArg _ ?_) (hb'.trans ?_)
  · funext a
    apply Fin.ext
    match a with
    | ⟨0, _⟩ => show r.val = win0_2.index t 0 * 4608 + 1 * r.val; rw [hi.1]; omega
    | ⟨1, _⟩ => show j.val = win0_2.index t 1 * 128 + 1 * (j.val % 128); rw [hi.2]; omega
  · show (cfg0.win 2).cut (grid0.coords t) ((dats m 0 c).after 2 t) _ = _
    rw [after0_2, outs_codes, hg]
    exact pay8_apply _ _ _ _ (iblk0 m X K c h t) (iblk1 m X K c h t) r (colD j)

/-- The last grid point. -/
def last : Fin cfg0.N := ⟨3, by rw [show cfg0.N = 4 from N_0]; decide⟩

/-- The index array: what the last point leaves. -/
theorem final_inds (c : Dev nD) : (dats m 0 c).arrAt 3 cfg0.N = (outsAt0 m c last.val last.isLt).2.1 :=
  (dats m 0 c).arrAt_eq_of_cover 3 (outsAt0 m c last.val last.isLt).2.1
    (fun t hf => by
      have hN : cfg0.N = 4 := N_0
      obtain rfl : t = last := Fin.ext (by have := (flush0_3 t).mp hf; have := t.isLt; show t.val = 3; omega)
      show (cfg0.win 3).cut (grid0.coords last) ((dats m 0 c).after 3 last) = _
      rw [after0_3]
      have hz' : (fun a => win0_3.index last a * main_call0_v1_1.ty.shape.size a) = fun _ => 0 := funext fun a => by fin_cases a <;> decide
      exact (Memref.read_access_unit_zero (Elt Ideal) main_call0_v1_1 hz' (fun a => by rw [congrFun hz' a]; simp) _).symm)
    fun i => ⟨last, (flush0_3 last).mpr rfl, by
      show i ∈ ((View.whole main_call0_v1_1).slice (win0_3.rect last)).set
      rw [View.set_slice_whole, Rect.mem_set_unit]
      intro a
      have h0 : (i 0 : Nat) < 4608 := (i 0).isLt
      have h1 : (i 1 : Nat) < 4 := (i 1).isLt
      match a with
      | ⟨0, _⟩ => show win0_3.index last 0 * win0_3.size 0 ≤ (i 0 : Nat) ∧ (i 0 : Nat) < win0_3.index last 0 * win0_3.size 0 + win0_3.xsize (grid0.coords last) 0
                  rw [show win0_3.index last 0 * win0_3.size 0 = 0 from by decide +kernel, show win0_3.xsize (grid0.coords last) 0 = 4608 from by decide +kernel]; omega
      | ⟨1, _⟩ => show win0_3.index last 1 * win0_3.size 1 ≤ (i 1 : Nat) ∧ (i 1 : Nat) < win0_3.index last 1 * win0_3.size 1 + win0_3.xsize (grid0.coords last) 1
                  rw [show win0_3.index last 1 * win0_3.size 1 = 0 from by decide +kernel, show win0_3.xsize (grid0.coords last) 1 = 4 from by decide +kernel]; omega⟩

/-- The loss array: what the last point leaves. -/
theorem final_comm (c : Dev nD) : (dats m 0 c).arrAt 4 cfg0.N = (outsAt0 m c last.val last.isLt).2.2 :=
  (dats m 0 c).arrAt_eq_of_cover 4 (outsAt0 m c last.val last.isLt).2.2
    (fun t hf => by
      have hN : cfg0.N = 4 := N_0
      obtain rfl : t = last := Fin.ext (by have := (flush0_4 t).mp hf; have := t.isLt; show t.val = 3; omega)
      show (cfg0.win 4).cut (grid0.coords last) ((dats m 0 c).after 4 last) = _
      rw [after0_4]
      have hz' : (fun a => win0_4.index last a * main_call0_v1_2.ty.shape.size a) = fun _ => 0 := funext fun a => by fin_cases a <;> decide
      exact (Memref.read_access_unit_zero (Elt Ideal) main_call0_v1_2 hz' (fun a => by rw [congrFun hz' a]; simp) _).symm)
    fun i => ⟨last, (flush0_4 last).mpr rfl, by
      show i ∈ ((View.whole main_call0_v1_2).slice (win0_4.rect last)).set
      rw [View.set_slice_whole, Rect.mem_set_unit]
      intro a
      have h0 : (i 0 : Nat) < 1 := (i 0).isLt
      have h1 : (i 1 : Nat) < 4 := (i 1).isLt
      match a with
      | ⟨0, _⟩ => show win0_4.index last 0 * win0_4.size 0 ≤ (i 0 : Nat) ∧ (i 0 : Nat) < win0_4.index last 0 * win0_4.size 0 + win0_4.xsize (grid0.coords last) 0
                  rw [show win0_4.index last 0 * win0_4.size 0 = 0 from by decide +kernel, show win0_4.xsize (grid0.coords last) 0 = 1 from by decide +kernel]; omega
      | ⟨1, _⟩ => show win0_4.index last 1 * win0_4.size 1 ≤ (i 1 : Nat) ∧ (i 1 : Nat) < win0_4.index last 1 * win0_4.size 1 + win0_4.xsize (grid0.coords last) 1
                  rw [show win0_4.index last 1 * win0_4.size 1 = 0 from by decide +kernel, show win0_4.xsize (grid0.coords last) 1 = 4 from by decide +kernel]; omega⟩

/-- Row `(b, n)` in the flattened input. -/
def row (b : Fin 8) (n : Fin 576) : Fin 4608 := ⟨576 * b.val + n.val, by omega⟩

/-- Unflattening the codes reads `(b, n, j)` at row `(b, n)`, column `j`. -/
theorem unflat_codes (x : Vec Ideal S4608x512 .f32) (hs : S4608x512.ShapeCasts S8x576x512) (b : Fin 8) (n : Fin 576) (j : Fin 512) :
    shapeCast S8x576x512 x hs (ix3 b n j) = x (ix2 (row b n) j) := by
  pointwise []
  exact congrArg (fun r => x (ix2 r j)) (Fin.ext (by show b.val * 576 + n.val = 576 * b.val + n.val; omega))

/-- Unflattening the indices. -/
theorem unflat_inds (x : Vec Ideal S4608x4 .i32) (hs : S4608x4.ShapeCasts S8x576x4) (b : Fin 8) (n : Fin 576) (k : Fin 4) :
    shapeCast S8x576x4 x hs (ix3 b n k) = x (ix2 (row b n) k) := by
  pointwise []
  exact congrArg (fun r => x (ix2 r k)) (Fin.ext (by show b.val * 576 + n.val = 576 * b.val + n.val; omega))

/-- Unflattening the losses. -/
theorem unflat_comm (x : Vec Ideal S1x4 .f32) (hs : S1x4.ShapeCasts S4) (k : Fin 4) :
    shapeCast S4 x hs (ix1 k) = x (ix2 0 k) := by
  pointwise []

/-- The tail after the region: result 0 is the codes unflattened. -/
theorem tail_codes (c : Dev nD) : Pipeline.afterTail₀ cfgs (dats m) 0 (V0 m) [hostOps1] c main_v0_0
    = shapeCast S8x576x512 ((dats m 0 c).arrAt 2 cfg0.N) shapeCasts_S4608x512_S8x576x512 := by
  unfold Pipeline.afterTail₀
  show StableHlo.after hostOps1 _ _ = _
  after_results
  exact congrArg (fun x => shapeCast S8x576x512 x shapeCasts_S4608x512_S8x576x512)
    (Pipeline.withArrays_arr spec0 launch0.win.arr_inj c (V0 m c) (fun w => (dats m 0 c).arrAt w cfg0.N) 2)

/-- The tail after the region: result 1 is the indices unflattened. -/
theorem tail_inds (c : Dev nD) : Pipeline.afterTail₀ cfgs (dats m) 0 (V0 m) [hostOps1] c main_v0_1
    = shapeCast S8x576x4 ((dats m 0 c).arrAt 3 cfg0.N) shapeCasts_S4608x4_S8x576x4 := by
  unfold Pipeline.afterTail₀
  show StableHlo.after hostOps1 _ _ = _
  after_results
  exact congrArg (fun x => shapeCast S8x576x4 x shapeCasts_S4608x4_S8x576x4)
    (Pipeline.withArrays_arr spec0 launch0.win.arr_inj c (V0 m c) (fun w => (dats m 0 c).arrAt w cfg0.N) 3)

/-- The tail after the region: result 2 is the losses unflattened. -/
theorem tail_comm (c : Dev nD) : Pipeline.afterTail₀ cfgs (dats m) 0 (V0 m) [hostOps1] c main_v0_2
    = shapeCast S4 ((dats m 0 c).arrAt 4 cfg0.N) shapeCasts_S1x4_S4 := by
  unfold Pipeline.afterTail₀
  show StableHlo.after hostOps1 _ _ = _
  after_results
  exact congrArg (fun x => shapeCast S4 x shapeCasts_S1x4_S4)
    (Pipeline.withArrays_arr spec0 launch0.win.arr_inj c (V0 m c) (fun w => (dats m 0 c).arrAt w cfg0.N) 4)

variable (ρ : Dev nD → PrngReg)

/-- The kernel's run, its results named by the mathematics of the real arguments: the codes, the winners' indices and the
    mean squared distances; the arguments end unchanged. -/
theorem kernel_run (h : ∀ c, IsArgs m X K c) : θ_run defs (onTc (τ := τ) (main (F := Ideal))) ⟨m, fun _ => 0, ρ⟩ fun r => ∀ c : Dev nD,
      (∀ b n j, r.2.mem ((c : Thread nD τ).loc main_v0_0) (ix3 b n j)
        = ((K (colI j) (best (vec X (colI j) b n) (K (colI j))) (colD j) : ℝ) : EReal))
      ∧ (∀ b n k, r.2.mem ((c : Thread nD τ).loc main_v0_1) (ix3 b n k) = BitVec.ofNat 32 (best (vec X k b n) (K k)).val)
      ∧ (∀ k, r.2.mem ((c : Thread nD τ).loc main_v0_2) (ix1 k) = ((loss X K k : ℝ) : EReal))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r hr c => ?_) (run_main m ρ)
  have hrow : ∀ b n i, rows X i (row b n) = vec X i b n := fun b n i => by
    have e1 : rowB (row b n) = b := Fin.ext (by show (576 * b.val + n.val) / 576 = b.val; omega)
    have e2 : rowN (row b n) = n := Fin.ext (by show (576 * b.val + n.val) % 576 = n.val; omega)
    show vec X i _ _ = _
    rw [e1, e2]
  refine ⟨fun b n j => ?_, fun b n k => ?_, fun k => ?_, ?_, ?_⟩
  · rw [(hr c).2 main_v0_0 (Pipeline.mem_restRefs_of main_v0_0 (by decide) (by decide)), tail_codes, unflat_codes,
      final_codes m X K c (h c), hrow]
  · rw [(hr c).2 main_v0_1 (Pipeline.mem_restRefs_of main_v0_1 (by decide) (by decide)), tail_inds, unflat_inds,
      final_inds, outs_inds m X K c (h c) _ _ _ _ (by show k.val ≤ 3; omega), hrow]
  · rw [(hr c).2 main_v0_2 (Pipeline.mem_restRefs_of main_v0_2 (by decide) (by decide)), tail_comm, unflat_comm,
      final_comm, outs_comm m X K c (h c) _ _ _ (by show k.val ≤ 3; omega)]
  · exact ((hr c).2 main_arg0 (Pipeline.mem_restRefs_of main_arg0 (by decide) (by decide))).trans (W_main_arg0 m (dats m) c)
  · exact ((hr c).1 1).trans (((dats m 0 c).arrAt_in 1 rfl _).trans ((A_eq m c 1).trans (V_main_arg1 m c)))

end Cert.VQ
-- ==== Proof.RefRun.lean ====
/-
  The reference's program as its line of operations, and what that line leaves in the three results: each block of the
  codebook by one and the same function of the input's group and the block (`refInd`, `refCode`, `refLoss`).
-/
module

public import proofs.«01_k».proof.Proof.Gen.ReferenceIdeal
public import proofs.«01_k».proof.ReferenceIdeal
public import Idealize.ShloMosaic.Lib.StableHlo.RunHlo
public import Idealize.ShloMosaic.Lib.StableHlo.RunRead

@[expose] public section

noncomputable section

namespace Cert.VQRef

open Cert.ReferenceIdeal Cert.ReferenceIdeal.Gen Idealize.ShloMosaic Idealize.ShloMosaic.TcCoe Idealize.SL.Sem
open Idealize.ShloMosaic.StableHlo

variable {F : FTy → Type} [FloatOps F]

/-- The operations of one arg-min over the codes. -/
abbrev argminOps (arg0 : TRef sig ⟨S8x576x1024, .f32⟩) (φ : fn_argmin.Bufs) : List (HloOp τ sig (Elt F)) :=
  [ TRef.nullary φ.v0 (iotaInDim S8x576x1024 32 2),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v reducesTo_S8x576x1024_S8x576_d2 h_S_ j).1),
    TRef.quaternary arg0 φ.v0 φ.cst φ.c φ.v1_1 (fun x y u v j => (Host.argReduce reducer_argmin_f32_i32 x y u v reducesTo_S8x576x1024_S8x576_d2 h_S_ j).2) ]

/-- The operations of one row look-up. -/
abbrev takeOps (arg0 : TRef sig ⟨S1024x128, .f32⟩) (arg1 : TRef sig ⟨S8x576, .i32⟩) (φ : fn_take.Bufs) : List (HloOp τ sig (Elt F)) :=
  [ TRef.nullary φ.c (constantI S_ 32 0#32),
    TRef.unary φ.c φ.v0 (broadcastInDim S8x576 ![] bcast_S_S8x576),
    TRef.binary arg1 φ.v0 φ.v1 (cmpi .slt),
    TRef.nullary φ.c_0 (constantI S_ 32 1024#32),
    TRef.unary φ.c_0 φ.v2 (broadcastInDim S8x576 ![] bcast_S_S8x576),
    TRef.binary arg1 φ.v2 φ.v3 addi,
    TRef.ternary φ.v1 φ.v3 arg1 φ.call0.v0 select,
    TRef.unary φ.call0.v0 φ.v5 (broadcastInDim S8x576x1 ![0, 1] bcast_S8x576_S8x576x1_0_1),
    TRef.nullary φ.c_1 (constantI S1 32 1023#32),
    TRef.nullary φ.c_2 (constantI S_ 32 0#32),
    TRef.unary φ.c_2 φ.v6 (broadcastInDim S8x576x1 ![] bcast_S_S8x576x1),
    TRef.binary φ.v5 φ.v6 φ.v7 (cmpi .sge),
    TRef.unary φ.c_1 φ.v8 (broadcastInDim S1x1x1 ![2] bcast_S1_S1x1x1_2),
    TRef.unary φ.v8 φ.v9 (broadcastInDim S8x576x1 ![0, 1, 2] bcast_S1x1x1_S8x576x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8x576x1_S8x576_d2 h_S_),
    TRef.binary arg0 φ.v5 φ.v13 (fun x i => Host.gather gather_S1024x128_S8x576x1_S8x576x128_2_0_n_n_0_2_1128 x i),
    TRef.unary φ.v12 φ.v14 (broadcastInDim S8x576x128 ![0, 1] bcast_S8x576_S8x576x128_0_1),
    TRef.nullary φ.cst (constant S_ .f32 0x7FC00000#32),
    TRef.unary φ.cst φ.v15 (broadcastInDim S8x576x128 ![] bcast_S_S8x576x128),
    TRef.ternary φ.v14 φ.v13 φ.v15 φ.v16 select ]

/-- Stretch 0 of the operations between the calls. -/
abbrev line0 : List (HloOp τ sig (Elt F)) :=
  [ reshape main_arg0 main_v0 (rfl : (.f32 : EltTy) = .f32) shapeCasts_S8x576x512_S8x576x4x128,
    unary main_v0 main_v1 ((extractStridedSlice S8x576x1x128 ![0, 0, 0, 0] · slices_S8x576x4x128_S8x576x1x128_0_0_0_0) : (⟨S8x576x4x128, .f32⟩ : BufTy).Contents (Elt F) → (⟨S8x576x1x128, .f32⟩ : BufTy).Contents (Elt F)),
    reshape main_v1 main_v2 (rfl : (.f32 : EltTy) = .f32) shapeCasts_S8x576x1x128_S8x576x128,
    unary main_arg1 main_v3 ((extractStridedSlice S1x1024x128 ![0, 0, 0] · slices_S4x1024x128_S1x1024x128_0_0_0) : (⟨S4x1024x128, .f32⟩ : BufTy).Contents (Elt F) → (⟨S1x1024x128, .f32⟩ : BufTy).Contents (Elt F)),
    reshape main_v3 main_v4 (rfl : (.f32 : EltTy) = .f32) shapeCasts_S1x1024x128_S1024x128,
    binary main_v2 main_v2 main_v5 (mulf : (⟨S8x576x128, .f32⟩ : BufTy).Contents (Elt F) → (⟨S8x576x128, .f32⟩ : BufTy).Contents (Elt F) → (⟨S8x576x128, .f32⟩ : BufTy).Contents (Elt F)),
    nullary main_cst (constant S_ .f32 0x00000000#32),
    binary main_v5 main_cst main_v6 ((fun x v => Host.reduceAdd x v reducesTo_S8x576x128_S8x576_d2 h_S_) : (⟨S8x576x128, .f32⟩ : BufTy).Contents (Elt F) → (⟨S_, .f32⟩ : BufTy).Contents (Elt F) → (⟨S8x576, .f32⟩ : BufTy).Contents (Elt F)),
    unary main_v6 main_v7 (broadcastInDim S8x576x1 ![0, 1] bcast_S8x576_S8x576x1_0_1 : (⟨S8x576, .f32⟩ : BufTy).Contents (Elt F) → (⟨S8x576x1, .f32⟩ : BufTy).Contents (Elt F)),
    binary main_v4 main_v4 main_v8 (mulf : (⟨S1024x128, .f32⟩ : BufTy).Contents (Elt F) → (⟨S1024x128, .f32⟩ : BufTy).Contents (Elt F) → (⟨S1024x128, .f32⟩ : BufTy).Contents (Elt F)),
    nullary main_cst_0 (constant S_ .f32 0x00000000#32),
    binary main_v8 main_cst_0 main_v9 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    binary main_v2 main_v4 main_v10 ((fun l r => Host.dotGeneral dot_S8x576x128_S1024x128_S8x576x1024_2_1_01_0_n_n none l r) : (⟨S8x576x128, .f32⟩ : BufTy).Contents (Elt F) → (⟨S1024x128, .f32⟩ : BufTy).Contents (Elt F) → (⟨S8x576x1024, .f32⟩ : BufTy).Contents (Elt F)),
    nullary main_cst_1 (constant S_ .f32 0x40000000#32),
    unary main_cst_1 main_v11 (broadcastInDim S8x576x1024 ![] bcast_S_S8x576x1024 : (⟨S_, .f32⟩ : BufTy).Contents (Elt F) → (⟨S8x576x1024, .f32⟩ : BufTy).Contents (Elt F)),
    binary main_v11 main_v10 main_v12 (mulf : (⟨S8x576x1024, .f32⟩ : BufTy).Contents (Elt F) → (⟨S8x576x1024, .f32⟩ : BufTy).Contents (Elt F) → (⟨S8x576x1024, .f32⟩ : BufTy).Contents (Elt F)),
    unary main_v7 main_v13 (broadcastInDim S8x576x1024 ![0, 1, 2] bcast_S8x576x1_S8x576x1024_0_1_2 : (⟨S8x576x1, .f32⟩ : BufTy).Contents (Elt F) → (⟨S8x576x1024, .f32⟩ : BufTy).Contents (Elt F)),
    binary main_v13 main_v12 main_v14 (subf : (⟨S8x576x1024, .f32⟩ : BufTy).Contents (Elt F) → (⟨S8x576x1024, .f32⟩ : BufTy).Contents (Elt F) → (⟨S8x576x1024, .f32⟩ : BufTy).Contents (Elt F)),
    unary main_v9 main_v15 (broadcastInDim S1x1x1024 ![2] bcast_S1024_S1x1x1024_2 : (⟨S1024, .f32⟩ : BufTy).Contents (Elt F) → (⟨S1x1x1024, .f32⟩ : BufTy).Contents (Elt F)),
    unary main_v15 main_v16 (broadcastInDim S8x576x1024 ![0, 1, 2] bcast_S1x1x1024_S8x576x1024_0_1_2 : (⟨S1x1x1024, .f32⟩ : BufTy).Contents (Elt F) → (⟨S8x576x1024, .f32⟩ : BufTy).Contents (Elt F)),
    binary main_v14 main_v16 main_v17 (addf : (⟨S8x576x1024, .f32⟩ : BufTy).Contents (Elt F) → (⟨S8x576x1024, .f32⟩ : BufTy).Contents (Elt F) → (⟨S8x576x1024, .f32⟩ : BufTy).Contents (Elt F)) ]

/-- Stretch 1 of the operations between the calls. -/
abbrev line1 : List (HloOp τ sig (Elt F)) :=
  [ binary main_v19 main_v2 main_v20 (subf : (⟨S8x576x128, .f32⟩ : BufTy).Contents (Elt F) → (⟨S8x576x128, .f32⟩ : BufTy).Contents (Elt F) → (⟨S8x576x128, .f32⟩ : BufTy).Contents (Elt F)),
    binary main_v2 main_v20 main_v21 (addf : (⟨S8x576x128, .f32⟩ : BufTy).Contents (Elt F) → (⟨S8x576x128, .f32⟩ : BufTy).Contents (Elt F) → (⟨S8x576x128, .f32⟩ : BufTy).Contents (Elt F)),
    binary main_v2 main_v19 main_v22 (subf : (⟨S8x576x128, .f32⟩ : BufTy).Contents (Elt F) → (⟨S8x576x128, .f32⟩ : BufTy).Contents (Elt F) → (⟨S8x576x128, .f32⟩ : BufTy).Contents (Elt F)),
    binary main_v22 main_v22 main_v23 (mulf : (⟨S8x576x128, .f32⟩ : BufTy).Contents (Elt F) → (⟨S8x576x128, .f32⟩ : BufTy).Contents (Elt F) → (⟨S8x576x128, .f32⟩ : BufTy).Contents (Elt F)),
    nullary main_cst_2 (constant S_ .f32 0x00000000#32),
    binary main_v23 main_cst_2 main_v24 ((fun x v => Host.reduceAdd x v reducesTo_S8x576x128_S_d0_1_2 h_S_) : (⟨S8x576x128, .f32⟩ : BufTy).Contents (Elt F) → (⟨S_, .f32⟩ : BufTy).Contents (Elt F) → (⟨S_, .f32⟩ : BufTy).Contents (Elt F)),
    nullary main_cst_3 (constant S_ .f32 0x49100000#32),
    binary main_v24 main_cst_3 main_v25 (Host.divf : (⟨S_, .f32⟩ : BufTy).Contents (Elt F) → (⟨S_, .f32⟩ : BufTy).Contents (Elt F) → (⟨S_, .f32⟩ : BufTy).Contents (Elt F)),
    unary main_v25 main_v26 (broadcastInDim S1 ![] bcast_S_S1 : (⟨S_, .f32⟩ : BufTy).Contents (Elt F) → (⟨S1, .f32⟩ : BufTy).Contents (Elt F)),
    unary main_v18 main_v27 (broadcastInDim S8x576x1 ![0, 1] bcast_S8x576_S8x576x1_0_1 : (⟨S8x576, .i32⟩ : BufTy).Contents (Elt F) → (⟨S8x576x1, .i32⟩ : BufTy).Contents (Elt F)),
    unary main_v0 main_v28 ((extractStridedSlice S8x576x1x128 ![0, 0, 1, 0] · slices_S8x576x4x128_S8x576x1x128_0_0_1_0) : (⟨S8x576x4x128, .f32⟩ : BufTy).Contents (Elt F) → (⟨S8x576x1x128, .f32⟩ : BufTy).Contents (Elt F)),
    reshape main_v28 main_v29 (rfl : (.f32 : EltTy) = .f32) shapeCasts_S8x576x1x128_S8x576x128,
    unary main_arg1 main_v30 ((extractStridedSlice S1x1024x128 ![1, 0, 0] · slices_S4x1024x128_S1x1024x128_1_0_0) : (⟨S4x1024x128, .f32⟩ : BufTy).Contents (Elt F) → (⟨S1x1024x128, .f32⟩ : BufTy).Contents (Elt F)),
    reshape main_v30 main_v31 (rfl : (.f32 : EltTy) = .f32) shapeCasts_S1x1024x128_S1024x128,
    binary main_v29 main_v29 main_v32 (mulf : (⟨S8x576x128, .f32⟩ : BufTy).Contents (Elt F) → (⟨S8x576x128, .f32⟩ : BufTy).Contents (Elt F) → (⟨S8x576x128, .f32⟩ : BufTy).Contents (Elt F)),
    nullary main_cst_4 (constant S_ .f32 0x00000000#32),
    binary main_v32 main_cst_4 main_v33 ((fun x v => Host.reduceAdd x v reducesTo_S8x576x128_S8x576_d2 h_S_) : (⟨S8x576x128, .f32⟩ : BufTy).Contents (Elt F) → (⟨S_, .f32⟩ : BufTy).Contents (Elt F) → (⟨S8x576, .f32⟩ : BufTy).Contents (Elt F)),
    unary main_v33 main_v34 (broadcastInDim S8x576x1 ![0, 1] bcast_S8x576_S8x576x1_0_1 : (⟨S8x576, .f32⟩ : BufTy).Contents (Elt F) → (⟨S8x576x1, .f32⟩ : BufTy).Contents (Elt F)),
    binary main_v31 main_v31 main_v35 (mulf : (⟨S1024x128, .f32⟩ : BufTy).Contents (Elt F) → (⟨S1024x128, .f32⟩ : BufTy).Contents (Elt F) → (⟨S1024x128, .f32⟩ : BufTy).Contents (Elt F)),
    nullary main_cst_5 (constant S_ .f32 0x00000000#32),
    binary main_v35 main_cst_5 main_v36 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    binary main_v29 main_v31 main_v37 ((fun l r => Host.dotGeneral dot_S8x576x128_S1024x128_S8x576x1024_2_1_01_0_n_n none l r) : (⟨S8x576x128, .f32⟩ : BufTy).Contents (Elt F) → (⟨S1024x128, .f32⟩ : BufTy).Contents (Elt F) → (⟨S8x576x1024, .f32⟩ : BufTy).Contents (Elt F)),
    nullary main_cst_6 (constant S_ .f32 0x40000000#32),
    unary main_cst_6 main_v38 (broadcastInDim S8x576x1024 ![] bcast_S_S8x576x1024 : (⟨S_, .f32⟩ : BufTy).Contents (Elt F) → (⟨S8x576x1024, .f32⟩ : BufTy).Contents (Elt F)),
    binary main_v38 main_v37 main_v39 (mulf : (⟨S8x576x1024, .f32⟩ : BufTy).Contents (Elt F) → (⟨S8x576x1024, .f32⟩ : BufTy).Contents (Elt F) → (⟨S8x576x1024, .f32⟩ : BufTy).Contents (Elt F)),
    unary main_v34 main_v40 (broadcastInDim S8x576x1024 ![0, 1, 2] bcast_S8x576x1_S8x576x1024_0_1_2 : (⟨S8x576x1, .f32⟩ : BufTy).Contents (Elt F) → (⟨S8x576x1024, .f32⟩ : BufTy).Contents (Elt F)),
    binary main_v40 main_v39 main_v41 (subf : (⟨S8x576x1024, .f32⟩ : BufTy).Contents (Elt F) → (⟨S8x576x1024, .f32⟩ : BufTy).Contents (Elt F) → (⟨S8x576x1024, .f32⟩ : BufTy).Contents (Elt F)),
    unary main_v36 main_v42 (broadcastInDim S1x1x1024 ![2] bcast_S1024_S1x1x1024_2 : (⟨S1024, .f32⟩ : BufTy).Contents (Elt F) → (⟨S1x1x1024, .f32⟩ : BufTy).Contents (Elt F)),
    unary main_v42 main_v43 (broadcastInDim S8x576x1024 ![0, 1, 2] bcast_S1x1x1024_S8x576x1024_0_1_2 : (⟨S1x1x1024, .f32⟩ : BufTy).Contents (Elt F) → (⟨S8x576x1024, .f32⟩ : BufTy).Contents (Elt F)),
    binary main_v41 main_v43 main_v44 (addf : (⟨S8x576x1024, .f32⟩ : BufTy).Contents (Elt F) → (⟨S8x576x1024, .f32⟩ : BufTy).Contents (Elt F) → (⟨S8x576x1024, .f32⟩ : BufTy).Contents (Elt F)) ]

/-- Stretch 2 of the operations between the calls. -/
abbrev line2 : List (HloOp τ sig (Elt F)) :=
  [ binary main_v46 main_v29 main_v47 (subf : (⟨S8x576x128, .f32⟩ : BufTy).Contents (Elt F) → (⟨S8x576x128, .f32⟩ : BufTy).Contents (Elt F) → (⟨S8x576x128, .f32⟩ : BufTy).Contents (Elt F)),
    binary main_v29 main_v47 main_v48 (addf : (⟨S8x576x128, .f32⟩ : BufTy).Contents (Elt F) → (⟨S8x576x128, .f32⟩ : BufTy).Contents (Elt F) → (⟨S8x576x128, .f32⟩ : BufTy).Contents (Elt F)),
    binary main_v29 main_v46 main_v49 (subf : (⟨S8x576x128, .f32⟩ : BufTy).Contents (Elt F) → (⟨S8x576x128, .f32⟩ : BufTy).Contents (Elt F) → (⟨S8x576x128, .f32⟩ : BufTy).Contents (Elt F)),
    binary main_v49 main_v49 main_v50 (mulf : (⟨S8x576x128, .f32⟩ : BufTy).Contents (Elt F) → (⟨S8x576x128, .f32⟩ : BufTy).Contents (Elt F) → (⟨S8x576x128, .f32⟩ : BufTy).Contents (Elt F)),
    nullary main_cst_7 (constant S_ .f32 0x00000000#32),
    binary main_v50 main_cst_7 main_v51 ((fun x v => Host.reduceAdd x v reducesTo_S8x576x128_S_d0_1_2 h_S_) : (⟨S8x576x128, .f32⟩ : BufTy).Contents (Elt F) → (⟨S_, .f32⟩ : BufTy).Contents (Elt F) → (⟨S_, .f32⟩ : BufTy).Contents (Elt F)),
    nullary main_cst_8 (constant S_ .f32 0x49100000#32),
    binary main_v51 main_cst_8 main_v52 (Host.divf : (⟨S_, .f32⟩ : BufTy).Contents (Elt F) → (⟨S_, .f32⟩ : BufTy).Contents (Elt F) → (⟨S_, .f32⟩ : BufTy).Contents (Elt F)),
    unary main_v52 main_v53 (broadcastInDim S1 ![] bcast_S_S1 : (⟨S_, .f32⟩ : BufTy).Contents (Elt F) → (⟨S1, .f32⟩ : BufTy).Contents (Elt F)),
    unary main_v45 main_v54 (broadcastInDim S8x576x1 ![0, 1] bcast_S8x576_S8x576x1_0_1 : (⟨S8x576, .i32⟩ : BufTy).Contents (Elt F) → (⟨S8x576x1, .i32⟩ : BufTy).Contents (Elt F)),
    unary main_v0 main_v55 ((extractStridedSlice S8x576x1x128 ![0, 0, 2, 0] · slices_S8x576x4x128_S8x576x1x128_0_0_2_0) : (⟨S8x576x4x128, .f32⟩ : BufTy).Contents (Elt F) → (⟨S8x576x1x128, .f32⟩ : BufTy).Contents (Elt F)),
    reshape main_v55 main_v56 (rfl : (.f32 : EltTy) = .f32) shapeCasts_S8x576x1x128_S8x576x128,
    unary main_arg1 main_v57 ((extractStridedSlice S1x1024x128 ![2, 0, 0] · slices_S4x1024x128_S1x1024x128_2_0_0) : (⟨S4x1024x128, .f32⟩ : BufTy).Contents (Elt F) → (⟨S1x1024x128, .f32⟩ : BufTy).Contents (Elt F)),
    reshape main_v57 main_v58 (rfl : (.f32 : EltTy) = .f32) shapeCasts_S1x1024x128_S1024x128,
    binary main_v56 main_v56 main_v59 (mulf : (⟨S8x576x128, .f32⟩ : BufTy).Contents (Elt F) → (⟨S8x576x128, .f32⟩ : BufTy).Contents (Elt F) → (⟨S8x576x128, .f32⟩ : BufTy).Contents (Elt F)),
    nullary main_cst_9 (constant S_ .f32 0x00000000#32),
    binary main_v59 main_cst_9 main_v60 ((fun x v => Host.reduceAdd x v reducesTo_S8x576x128_S8x576_d2 h_S_) : (⟨S8x576x128, .f32⟩ : BufTy).Contents (Elt F) → (⟨S_, .f32⟩ : BufTy).Contents (Elt F) → (⟨S8x576, .f32⟩ : BufTy).Contents (Elt F)),
    unary main_v60 main_v61 (broadcastInDim S8x576x1 ![0, 1] bcast_S8x576_S8x576x1_0_1 : (⟨S8x576, .f32⟩ : BufTy).Contents (Elt F) → (⟨S8x576x1, .f32⟩ : BufTy).Contents (Elt F)),
    binary main_v58 main_v58 main_v62 (mulf : (⟨S1024x128, .f32⟩ : BufTy).Contents (Elt F) → (⟨S1024x128, .f32⟩ : BufTy).Contents (Elt F) → (⟨S1024x128, .f32⟩ : BufTy).Contents (Elt F)),
    nullary main_cst_10 (constant S_ .f32 0x00000000#32),
    binary main_v62 main_cst_10 main_v63 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    binary main_v56 main_v58 main_v64 ((fun l r => Host.dotGeneral dot_S8x576x128_S1024x128_S8x576x1024_2_1_01_0_n_n none l r) : (⟨S8x576x128, .f32⟩ : BufTy).Contents (Elt F) → (⟨S1024x128, .f32⟩ : BufTy).Contents (Elt F) → (⟨S8x576x1024, .f32⟩ : BufTy).Contents (Elt F)),
    nullary main_cst_11 (constant S_ .f32 0x40000000#32),
    unary main_cst_11 main_v65 (broadcastInDim S8x576x1024 ![] bcast_S_S8x576x1024 : (⟨S_, .f32⟩ : BufTy).Contents (Elt F) → (⟨S8x576x1024, .f32⟩ : BufTy).Contents (Elt F)),
    binary main_v65 main_v64 main_v66 (mulf : (⟨S8x576x1024, .f32⟩ : BufTy).Contents (Elt F) → (⟨S8x576x1024, .f32⟩ : BufTy).Contents (Elt F) → (⟨S8x576x1024, .f32⟩ : BufTy).Contents (Elt F)),
    unary main_v61 main_v67 (broadcastInDim S8x576x1024 ![0, 1, 2] bcast_S8x576x1_S8x576x1024_0_1_2 : (⟨S8x576x1, .f32⟩ : BufTy).Contents (Elt F) → (⟨S8x576x1024, .f32⟩ : BufTy).Contents (Elt F)),
    binary main_v67 main_v66 main_v68 (subf : (⟨S8x576x1024, .f32⟩ : BufTy).Contents (Elt F) → (⟨S8x576x1024, .f32⟩ : BufTy).Contents (Elt F) → (⟨S8x576x1024, .f32⟩ : BufTy).Contents (Elt F)),
    unary main_v63 main_v69 (broadcastInDim S1x1x1024 ![2] bcast_S1024_S1x1x1024_2 : (⟨S1024, .f32⟩ : BufTy).Contents (Elt F) → (⟨S1x1x1024, .f32⟩ : BufTy).Contents (Elt F)),
    unary main_v69 main_v70 (broadcastInDim S8x576x1024 ![0, 1, 2] bcast_S1x1x1024_S8x576x1024_0_1_2 : (⟨S1x1x1024, .f32⟩ : BufTy).Contents (Elt F) → (⟨S8x576x1024, .f32⟩ : BufTy).Contents (Elt F)),
    binary main_v68 main_v70 main_v71 (addf : (⟨S8x576x1024, .f32⟩ : BufTy).Contents (Elt F) → (⟨S8x576x1024, .f32⟩ : BufTy).Contents (Elt F) → (⟨S8x576x1024, .f32⟩ : BufTy).Contents (Elt F)) ]

/-- Stretch 3 of the operations between the calls. -/
abbrev line3 : List (HloOp τ sig (Elt F)) :=
  [ binary main_v73 main_v56 main_v74 (subf : (⟨S8x576x128, .f32⟩ : BufTy).Contents (Elt F) → (⟨S8x576x128, .f32⟩ : BufTy).Contents (Elt F) → (⟨S8x576x128, .f32⟩ : BufTy).Contents (Elt F)),
    binary main_v56 main_v74 main_v75 (addf : (⟨S8x576x128, .f32⟩ : BufTy).Contents (Elt F) → (⟨S8x576x128, .f32⟩ : BufTy).Contents (Elt F) → (⟨S8x576x128, .f32⟩ : BufTy).Contents (Elt F)),
    binary main_v56 main_v73 main_v76 (subf : (⟨S8x576x128, .f32⟩ : BufTy).Contents (Elt F) → (⟨S8x576x128, .f32⟩ : BufTy).Contents (Elt F) → (⟨S8x576x128, .f32⟩ : BufTy).Contents (Elt F)),
    binary main_v76 main_v76 main_v77 (mulf : (⟨S8x576x128, .f32⟩ : BufTy).Contents (Elt F) → (⟨S8x576x128, .f32⟩ : BufTy).Contents (Elt F) → (⟨S8x576x128, .f32⟩ : BufTy).Contents (Elt F)),
    nullary main_cst_12 (constant S_ .f32 0x00000000#32),
    binary main_v77 main_cst_12 main_v78 ((fun x v => Host.reduceAdd x v reducesTo_S8x576x128_S_d0_1_2 h_S_) : (⟨S8x576x128, .f32⟩ : BufTy).Contents (Elt F) → (⟨S_, .f32⟩ : BufTy).Contents (Elt F) → (⟨S_, .f32⟩ : BufTy).Contents (Elt F)),
    nullary main_cst_13 (constant S_ .f32 0x49100000#32),
    binary main_v78 main_cst_13 main_v79 (Host.divf : (⟨S_, .f32⟩ : BufTy).Contents (Elt F) → (⟨S_, .f32⟩ : BufTy).Contents (Elt F) → (⟨S_, .f32⟩ : BufTy).Contents (Elt F)),
    unary main_v79 main_v80 (broadcastInDim S1 ![] bcast_S_S1 : (⟨S_, .f32⟩ : BufTy).Contents (Elt F) → (⟨S1, .f32⟩ : BufTy).Contents (Elt F)),
    unary main_v72 main_v81 (broadcastInDim S8x576x1 ![0, 1] bcast_S8x576_S8x576x1_0_1 : (⟨S8x576, .i32⟩ : BufTy).Contents (Elt F) → (⟨S8x576x1, .i32⟩ : BufTy).Contents (Elt F)),
    unary main_v0 main_v82 ((extractStridedSlice S8x576x1x128 ![0, 0, 3, 0] · slices_S8x576x4x128_S8x576x1x128_0_0_3_0) : (⟨S8x576x4x128, .f32⟩ : BufTy).Contents (Elt F) → (⟨S8x576x1x128, .f32⟩ : BufTy).Contents (Elt F)),
    reshape main_v82 main_v83 (rfl : (.f32 : EltTy) = .f32) shapeCasts_S8x576x1x128_S8x576x128,
    unary main_arg1 main_v84 ((extractStridedSlice S1x1024x128 ![3, 0, 0] · slices_S4x1024x128_S1x1024x128_3_0_0) : (⟨S4x1024x128, .f32⟩ : BufTy).Contents (Elt F) → (⟨S1x1024x128, .f32⟩ : BufTy).Contents (Elt F)),
    reshape main_v84 main_v85 (rfl : (.f32 : EltTy) = .f32) shapeCasts_S1x1024x128_S1024x128,
    binary main_v83 main_v83 main_v86 (mulf : (⟨S8x576x128, .f32⟩ : BufTy).Contents (Elt F) → (⟨S8x576x128, .f32⟩ : BufTy).Contents (Elt F) → (⟨S8x576x128, .f32⟩ : BufTy).Contents (Elt F)),
    nullary main_cst_14 (constant S_ .f32 0x00000000#32),
    binary main_v86 main_cst_14 main_v87 ((fun x v => Host.reduceAdd x v reducesTo_S8x576x128_S8x576_d2 h_S_) : (⟨S8x576x128, .f32⟩ : BufTy).Contents (Elt F) → (⟨S_, .f32⟩ : BufTy).Contents (Elt F) → (⟨S8x576, .f32⟩ : BufTy).Contents (Elt F)),
    unary main_v87 main_v88 (broadcastInDim S8x576x1 ![0, 1] bcast_S8x576_S8x576x1_0_1 : (⟨S8x576, .f32⟩ : BufTy).Contents (Elt F) → (⟨S8x576x1, .f32⟩ : BufTy).Contents (Elt F)),
    binary main_v85 main_v85 main_v89 (mulf : (⟨S1024x128, .f32⟩ : BufTy).Contents (Elt F) → (⟨S1024x128, .f32⟩ : BufTy).Contents (Elt F) → (⟨S1024x128, .f32⟩ : BufTy).Contents (Elt F)),
    nullary main_cst_15 (constant S_ .f32 0x00000000#32),
    binary main_v89 main_cst_15 main_v90 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    binary main_v83 main_v85 main_v91 ((fun l r => Host.dotGeneral dot_S8x576x128_S1024x128_S8x576x1024_2_1_01_0_n_n none l r) : (⟨S8x576x128, .f32⟩ : BufTy).Contents (Elt F) → (⟨S1024x128, .f32⟩ : BufTy).Contents (Elt F) → (⟨S8x576x1024, .f32⟩ : BufTy).Contents (Elt F)),
    nullary main_cst_16 (constant S_ .f32 0x40000000#32),
    unary main_cst_16 main_v92 (broadcastInDim S8x576x1024 ![] bcast_S_S8x576x1024 : (⟨S_, .f32⟩ : BufTy).Contents (Elt F) → (⟨S8x576x1024, .f32⟩ : BufTy).Contents (Elt F)),
    binary main_v92 main_v91 main_v93 (mulf : (⟨S8x576x1024, .f32⟩ : BufTy).Contents (Elt F) → (⟨S8x576x1024, .f32⟩ : BufTy).Contents (Elt F) → (⟨S8x576x1024, .f32⟩ : BufTy).Contents (Elt F)),
    unary main_v88 main_v94 (broadcastInDim S8x576x1024 ![0, 1, 2] bcast_S8x576x1_S8x576x1024_0_1_2 : (⟨S8x576x1, .f32⟩ : BufTy).Contents (Elt F) → (⟨S8x576x1024, .f32⟩ : BufTy).Contents (Elt F)),
    binary main_v94 main_v93 main_v95 (subf : (⟨S8x576x1024, .f32⟩ : BufTy).Contents (Elt F) → (⟨S8x576x1024, .f32⟩ : BufTy).Contents (Elt F) → (⟨S8x576x1024, .f32⟩ : BufTy).Contents (Elt F)),
    unary main_v90 main_v96 (broadcastInDim S1x1x1024 ![2] bcast_S1024_S1x1x1024_2 : (⟨S1024, .f32⟩ : BufTy).Contents (Elt F) → (⟨S1x1x1024, .f32⟩ : BufTy).Contents (Elt F)),
    unary main_v96 main_v97 (broadcastInDim S8x576x1024 ![0, 1, 2] bcast_S1x1x1024_S8x576x1024_0_1_2 : (⟨S1x1x1024, .f32⟩ : BufTy).Contents (Elt F) → (⟨S8x576x1024, .f32⟩ : BufTy).Contents (Elt F)),
    binary main_v95 main_v97 main_v98 (addf : (⟨S8x576x1024, .f32⟩ : BufTy).Contents (Elt F) → (⟨S8x576x1024, .f32⟩ : BufTy).Contents (Elt F) → (⟨S8x576x1024, .f32⟩ : BufTy).Contents (Elt F)) ]

/-- Stretch 4 of the operations between the calls. -/
abbrev line4 : List (HloOp τ sig (Elt F)) :=
  [ binary main_v100 main_v83 main_v101 (subf : (⟨S8x576x128, .f32⟩ : BufTy).Contents (Elt F) → (⟨S8x576x128, .f32⟩ : BufTy).Contents (Elt F) → (⟨S8x576x128, .f32⟩ : BufTy).Contents (Elt F)),
    binary main_v83 main_v101 main_v102 (addf : (⟨S8x576x128, .f32⟩ : BufTy).Contents (Elt F) → (⟨S8x576x128, .f32⟩ : BufTy).Contents (Elt F) → (⟨S8x576x128, .f32⟩ : BufTy).Contents (Elt F)),
    binary main_v83 main_v100 main_v103 (subf : (⟨S8x576x128, .f32⟩ : BufTy).Contents (Elt F) → (⟨S8x576x128, .f32⟩ : BufTy).Contents (Elt F) → (⟨S8x576x128, .f32⟩ : BufTy).Contents (Elt F)),
    binary main_v103 main_v103 main_v104 (mulf : (⟨S8x576x128, .f32⟩ : BufTy).Contents (Elt F) → (⟨S8x576x128, .f32⟩ : BufTy).Contents (Elt F) → (⟨S8x576x128, .f32⟩ : BufTy).Contents (Elt F)),
    nullary main_cst_17 (constant S_ .f32 0x00000000#32),
    binary main_v104 main_cst_17 main_v105 ((fun x v => Host.reduceAdd x v reducesTo_S8x576x128_S_d0_1_2 h_S_) : (⟨S8x576x128, .f32⟩ : BufTy).Contents (Elt F) → (⟨S_, .f32⟩ : BufTy).Contents (Elt F) → (⟨S_, .f32⟩ : BufTy).Contents (Elt F)),
    nullary main_cst_18 (constant S_ .f32 0x49100000#32),
    binary main_v105 main_cst_18 main_v106 (Host.divf : (⟨S_, .f32⟩ : BufTy).Contents (Elt F) → (⟨S_, .f32⟩ : BufTy).Contents (Elt F) → (⟨S_, .f32⟩ : BufTy).Contents (Elt F)),
    unary main_v106 main_v107 (broadcastInDim S1 ![] bcast_S_S1 : (⟨S_, .f32⟩ : BufTy).Contents (Elt F) → (⟨S1, .f32⟩ : BufTy).Contents (Elt F)),
    unary main_v99 main_v108 (broadcastInDim S8x576x1 ![0, 1] bcast_S8x576_S8x576x1_0_1 : (⟨S8x576, .i32⟩ : BufTy).Contents (Elt F) → (⟨S8x576x1, .i32⟩ : BufTy).Contents (Elt F)),
    nary ![main_v21, main_v48, main_v75, main_v102] main_v109 (fun u => (concatenate S8x576x512 2 [⟨S8x576x128, (u 0 : (⟨S8x576x128, .f32⟩ : BufTy).Contents (Elt F))⟩, ⟨S8x576x128, (u 1 : (⟨S8x576x128, .f32⟩ : BufTy).Contents (Elt F))⟩, ⟨S8x576x128, (u 2 : (⟨S8x576x128, .f32⟩ : BufTy).Contents (Elt F))⟩, ⟨S8x576x128, (u 3 : (⟨S8x576x128, .f32⟩ : BufTy).Contents (Elt F))⟩] concatenates_S8x576x128_S8x576x128_S8x576x128_S8x576x128_S8x576x512_d2 : (⟨S8x576x512, .f32⟩ : BufTy).Contents (Elt F))),
    nary ![main_v27, main_v54, main_v81, main_v108] main_v110 (fun u => (concatenate S8x576x4 2 [⟨S8x576x1, (u 0 : (⟨S8x576x1, .i32⟩ : BufTy).Contents (Elt F))⟩, ⟨S8x576x1, (u 1 : (⟨S8x576x1, .i32⟩ : BufTy).Contents (Elt F))⟩, ⟨S8x576x1, (u 2 : (⟨S8x576x1, .i32⟩ : BufTy).Contents (Elt F))⟩, ⟨S8x576x1, (u 3 : (⟨S8x576x1, .i32⟩ : BufTy).Contents (Elt F))⟩] concatenates_S8x576x1_S8x576x1_S8x576x1_S8x576x1_S8x576x4_d2 : (⟨S8x576x4, .i32⟩ : BufTy).Contents (Elt F))),
    nary ![main_v26, main_v53, main_v80, main_v107] main_v111 (fun u => (concatenate S4 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩] concatenates_S1_S1_S1_S1_S4_d0 : (⟨S4, .f32⟩ : BufTy).Contents (Elt F))) ]

/-- All the operations of the reference, in order. -/
abbrev ops : List (HloOp τ sig (Elt F)) :=
  line0 ++ (argminOps (.of main_v17) main_call0 ++ (takeOps (.of main_v4) (.of main_v18) main_call1 ++ (line1 ++ (argminOps (.of main_v44) main_call2 ++ (takeOps (.of main_v31) (.of main_v45) main_call3 ++ (line2 ++ (argminOps (.of main_v71) main_call4 ++ (takeOps (.of main_v58) (.of main_v72) main_call5 ++ (line3 ++ (argminOps (.of main_v98) main_call6 ++ (takeOps (.of main_v85) (.of main_v99) main_call7 ++ (line4))))))))))))

set_option maxRecDepth 8192 in
/-- The printed program is that line. -/
theorem main_eq (c : Dev nD) : main (F := F) c = seq ops := by
  simp only [main, main_part0, main_part1, main_part2, fn_argmin.body, fn_take.body, fn_where.body, List.cons_append, List.nil_append, List.append_nil, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation's buffers are buffers of the program. -/
theorem ops_sub : (ops : List (HloOp τ sig (Elt F))).Forall fun op => op.bufs ⊆ tcRefs τ sig := by
  simp

/-- No operation allocates. -/
theorem ops_fresh : ∀ op ∈ (ops : List (HloOp τ sig (Elt F))), op.fresh = ∅ := by
  intro _ h; (repeat (cases h with | head => rfl | tail _ h => ?_)); exact nomatch h

/-- The reference runs to the line's fold over what it was launched with. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.VQRef
-- ==== Proof.RefRead.lean ====
/-
  What the reference's line of operations leaves in the three results: each block of the codebook by one and the same
  functions (`refCol`, `refCode`, `refLoss`) of the input's group and the block.
-/
module

public import proofs.«01_k».proof.Proof.RefRun

@[expose] public section

noncomputable section

namespace Cert.VQRef

open Cert.ReferenceIdeal Cert.ReferenceIdeal.Gen Idealize.ShloMosaic Idealize.ShloMosaic.TcCoe Idealize.SL.Sem
open Idealize.ShloMosaic.StableHlo

variable {F : FTy → Type} [FloatOps F]

/-- The group of the input that starts at `off` of the input seen as groups. -/
def refZ (off : Fin 4 → Nat) (h : S8x576x4x128.Slices off S8x576x1x128) (x : Vec F S8x576x512 .f32) : Vec F S8x576x128 .f32 :=
  shapeCast S8x576x128 (extractStridedSlice S8x576x1x128 off (shapeCast S8x576x4x128 x shapeCasts_S8x576x512_S8x576x4x128) h)
    shapeCasts_S8x576x1x128_S8x576x128

/-- The codebook block that starts at `off`. -/
def refC (off : Fin 3 → Nat) (h : S4x1024x128.Slices off S1x1024x128) (y : Vec F S4x1024x128 .f32) : Vec F S1024x128 .f32 :=
  shapeCast S1024x128 (extractStridedSlice S1x1024x128 off y h) shapeCasts_S1x1024x128_S1024x128

/-- The squared distances of the group's rows to the codebook's rows: the squares less twice the products. -/
def refDist (z : Vec F S8x576x128 .f32) (cb : Vec F S1024x128 .f32) : Vec F S8x576x1024 .f32 :=
  addf (subf
      (broadcastInDim S8x576x1024 ![0, 1, 2] bcast_S8x576x1_S8x576x1024_0_1_2
        (broadcastInDim S8x576x1 ![0, 1] bcast_S8x576_S8x576x1_0_1
          (Host.reduceAdd (mulf z z) (constant S_ .f32 0x00000000#32) reducesTo_S8x576x128_S8x576_d2 h_S_)))
      (mulf (broadcastInDim S8x576x1024 ![] bcast_S_S8x576x1024 (constant S_ .f32 0x40000000#32))
        (Host.dotGeneral dot_S8x576x128_S1024x128_S8x576x1024_2_1_01_0_n_n none z cb)))
    (broadcastInDim S8x576x1024 ![0, 1, 2] bcast_S1x1x1024_S8x576x1024_0_1_2
      (broadcastInDim S1x1x1024 ![2] bcast_S1024_S1x1x1024_2
        (Host.reduceAdd (mulf cb cb) (constant S_ .f32 0x00000000#32) reducesTo_S1024x128_S1024_d1 h_S_)))

/-- Each row's nearest code. -/
def refArg (x : Vec F S8x576x1024 .f32) : Vec F S8x576 .i32 := fun j =>
  (Host.argReduce reducer_argmin_f32_i32 x (iotaInDim S8x576x1024 32 2) (constant S_ .f32 0x7F800000#32) (constantI S_ 32 0#32)
    reducesTo_S8x576x1024_S8x576_d2 h_S_ j).2

/-- The row numbers as the look-up reads them: a negative one counts from the end. -/
def refRow (i : Vec F S8x576 .i32) : Vec F S8x576x1 .i32 :=
  broadcastInDim S8x576x1 ![0, 1] bcast_S8x576_S8x576x1_0_1
    (select (cmpi .slt i (broadcastInDim S8x576 ![] bcast_S_S8x576 (constantI S_ 32 0#32)))
      (addi i (broadcastInDim S8x576 ![] bcast_S_S8x576 (constantI S_ 32 1024#32))) i)

/-- Whether a row number is one of the codebook's. -/
def refOk (v : Vec F S8x576x1 .i32) : Vec F S8x576 .i1 :=
  Host.reduce IntOp.andi
    (andi (cmpi .sge v (broadcastInDim S8x576x1 ![] bcast_S_S8x576x1 (constantI S_ 32 0#32)))
      (cmpi .sle v (broadcastInDim S8x576x1 ![0, 1, 2] bcast_S1x1x1_S8x576x1_0_1_2
        (broadcastInDim S1x1x1 ![2] bcast_S1_S1x1x1_2 (constantI S1 32 1023#32)))))
    (constantI S_ 1 1#1) reducesTo_S8x576x1_S8x576_d2 h_S_

/-- The codebook's rows at the row numbers `i`. -/
def refTake (cb : Vec F S1024x128 .f32) (i : Vec F S8x576 .i32) : Vec F S8x576x128 .f32 :=
  select (broadcastInDim S8x576x128 ![0, 1] bcast_S8x576_S8x576x128_0_1 (refOk (F := F) (refRow (F := F) i)))
    (Host.gather gather_S1024x128_S8x576x1_S8x576x128_2_0_n_n_0_2_1128 cb (refRow (F := F) i))
    (broadcastInDim S8x576x128 ![] bcast_S_S8x576x128 (constant S_ .f32 0x7FC00000#32))

/-- The nearest codes of a group. -/
def refInd (z : Vec F S8x576x128 .f32) (cb : Vec F S1024x128 .f32) : Vec F S8x576 .i32 := refArg (refDist z cb)

/-- The looked-up rows of a group. -/
def refRows (z : Vec F S8x576x128 .f32) (cb : Vec F S1024x128 .f32) : Vec F S8x576x128 .f32 := refTake cb (refInd z cb)

/-- The code of a group: the group plus the difference to the looked-up rows. -/
def refCode (z : Vec F S8x576x128 .f32) (cb : Vec F S1024x128 .f32) : Vec F S8x576x128 .f32 := addf z (subf (refRows z cb) z)

/-- The nearest codes, with a last axis of one. -/
def refCol (z : Vec F S8x576x128 .f32) (cb : Vec F S1024x128 .f32) : Vec F S8x576x1 .i32 :=
  broadcastInDim S8x576x1 ![0, 1] bcast_S8x576_S8x576x1_0_1 (refInd z cb)

/-- The mean squared difference of a group and its looked-up rows. -/
def refLoss (z : Vec F S8x576x128 .f32) (cb : Vec F S1024x128 .f32) : Vec F S1 .f32 :=
  broadcastInDim S1 ![] bcast_S_S1
    (Host.divf (Host.reduceAdd (mulf (subf z (refRows z cb)) (subf z (refRows z cb))) (constant S_ .f32 0x00000000#32)
      reducesTo_S8x576x128_S_d0_1_2 h_S_) (constant S_ .f32 0x49100000#32))

/-- Group 0 of the input. -/
abbrev z0 (x : Vec F S8x576x512 .f32) := refZ ![0, 0, 0, 0] slices_S8x576x4x128_S8x576x1x128_0_0_0_0 x
/-- Group 1 of the input. -/
abbrev z1 (x : Vec F S8x576x512 .f32) := refZ ![0, 0, 1, 0] slices_S8x576x4x128_S8x576x1x128_0_0_1_0 x
/-- Group 2 of the input. -/
abbrev z2 (x : Vec F S8x576x512 .f32) := refZ ![0, 0, 2, 0] slices_S8x576x4x128_S8x576x1x128_0_0_2_0 x
/-- Group 3 of the input. -/
abbrev z3 (x : Vec F S8x576x512 .f32) := refZ ![0, 0, 3, 0] slices_S8x576x4x128_S8x576x1x128_0_0_3_0 x
/-- Codebook block 0. -/
abbrev c0 (y : Vec F S4x1024x128 .f32) := refC ![0, 0, 0] slices_S4x1024x128_S1x1024x128_0_0_0 y
/-- Codebook block 1. -/
abbrev c1 (y : Vec F S4x1024x128 .f32) := refC ![1, 0, 0] slices_S4x1024x128_S1x1024x128_1_0_0 y
/-- Codebook block 2. -/
abbrev c2 (y : Vec F S4x1024x128 .f32) := refC ![2, 0, 0] slices_S4x1024x128_S1x1024x128_2_0_0 y
/-- Codebook block 3. -/
abbrev c3 (y : Vec F S4x1024x128 .f32) := refC ![3, 0, 0] slices_S4x1024x128_S1x1024x128_3_0_0 y

/-- The four groups' codes side by side. -/
def refCodes (x : Vec F S8x576x512 .f32) (y : Vec F S4x1024x128 .f32) : Vec F S8x576x512 .f32 :=
  concatenate S8x576x512 2 [⟨S8x576x128, refCode (z0 x) (c0 y)⟩, ⟨S8x576x128, refCode (z1 x) (c1 y)⟩, ⟨S8x576x128, refCode (z2 x) (c2 y)⟩, ⟨S8x576x128, refCode (z3 x) (c3 y)⟩] concatenates_S8x576x128_S8x576x128_S8x576x128_S8x576x128_S8x576x512_d2

/-- The four groups' nearest codes side by side. -/
def refInds (x : Vec F S8x576x512 .f32) (y : Vec F S4x1024x128 .f32) : Vec F S8x576x4 .i32 :=
  concatenate S8x576x4 2 [⟨S8x576x1, refCol (z0 x) (c0 y)⟩, ⟨S8x576x1, refCol (z1 x) (c1 y)⟩, ⟨S8x576x1, refCol (z2 x) (c2 y)⟩, ⟨S8x576x1, refCol (z3 x) (c3 y)⟩] concatenates_S8x576x1_S8x576x1_S8x576x1_S8x576x1_S8x576x4_d2

/-- The four groups' losses. -/
def refLosses (x : Vec F S8x576x512 .f32) (y : Vec F S4x1024x128 .f32) : Vec F S4 .f32 :=
  concatenate S4 0 [⟨S1, refLoss (z0 x) (c0 y)⟩, ⟨S1, refLoss (z1 x) (c1 y)⟩, ⟨S1, refLoss (z2 x) (c2 y)⟩, ⟨S1, refLoss (z3 x) (c3 y)⟩] concatenates_S1_S1_S1_S1_S4_d0

/-- Result 0, the codes: the four groups' codes side by side. -/
theorem out_codes (V : Valuation τ sig (Elt F)) :
    after ops V (Proc.devRef .tc main_v109) = concatenate S8x576x512 2
      [⟨S8x576x128, refCode (z0 (V (Proc.devRef .tc main_arg0))) (c0 (V (Proc.devRef .tc main_arg1)))⟩,
       ⟨S8x576x128, refCode (z1 (V (Proc.devRef .tc main_arg0))) (c1 (V (Proc.devRef .tc main_arg1)))⟩,
       ⟨S8x576x128, refCode (z2 (V (Proc.devRef .tc main_arg0))) (c2 (V (Proc.devRef .tc main_arg1)))⟩,
       ⟨S8x576x128, refCode (z3 (V (Proc.devRef .tc main_arg0))) (c3 (V (Proc.devRef .tc main_arg1)))⟩]
      concatenates_S8x576x128_S8x576x128_S8x576x128_S8x576x128_S8x576x512_d2 := by
  have h0 : upto ops V 233 (Proc.devRef .tc main_v21) = refCode (z0 (V (Proc.devRef .tc main_arg0))) (c0 (V (Proc.devRef .tc main_arg1))) := by
    after_reads_simp
    simp only [TRef.ofBuf_toBuf]
    unfold refCode refRows refTake refOk refRow refInd refArg refDist z0 c0 refZ refC
    rfl
  have h1 : upto ops V 233 (Proc.devRef .tc main_v48) = refCode (z1 (V (Proc.devRef .tc main_arg0))) (c1 (V (Proc.devRef .tc main_arg1))) := by
    after_reads_simp
    simp only [TRef.ofBuf_toBuf]
    unfold refCode refRows refTake refOk refRow refInd refArg refDist z1 c1 refZ refC
    rfl
  have h2 : upto ops V 233 (Proc.devRef .tc main_v75) = refCode (z2 (V (Proc.devRef .tc main_arg0))) (c2 (V (Proc.devRef .tc main_arg1))) := by
    after_reads_simp
    simp only [TRef.ofBuf_toBuf]
    unfold refCode refRows refTake refOk refRow refInd refArg refDist z2 c2 refZ refC
    rfl
  have h3 : upto ops V 233 (Proc.devRef .tc main_v102) = refCode (z3 (V (Proc.devRef .tc main_arg0))) (c3 (V (Proc.devRef .tc main_arg1))) := by
    after_reads_simp
    simp only [TRef.ofBuf_toBuf]
    unfold refCode refRows refTake refOk refRow refInd refArg refDist z3 c3 refZ refC
    rfl
  after_reads_simp
  rw [← h0, ← h1, ← h2, ← h3]
  rfl

/-- Result 1, the indices: the four groups' nearest codes side by side. -/
theorem out_inds (V : Valuation τ sig (Elt F)) :
    after ops V (Proc.devRef .tc main_v110) = concatenate S8x576x4 2
      [⟨S8x576x1, refCol (z0 (V (Proc.devRef .tc main_arg0))) (c0 (V (Proc.devRef .tc main_arg1)))⟩,
       ⟨S8x576x1, refCol (z1 (V (Proc.devRef .tc main_arg0))) (c1 (V (Proc.devRef .tc main_arg1)))⟩,
       ⟨S8x576x1, refCol (z2 (V (Proc.devRef .tc main_arg0))) (c2 (V (Proc.devRef .tc main_arg1)))⟩,
       ⟨S8x576x1, refCol (z3 (V (Proc.devRef .tc main_arg0))) (c3 (V (Proc.devRef .tc main_arg1)))⟩]
      concatenates_S8x576x1_S8x576x1_S8x576x1_S8x576x1_S8x576x4_d2 := by
  have h0 : upto ops V 234 (Proc.devRef .tc main_v27) = refCol (z0 (V (Proc.devRef .tc main_arg0))) (c0 (V (Proc.devRef .tc main_arg1))) := by
    after_reads_simp
    rfl
  have h1 : upto ops V 234 (Proc.devRef .tc main_v54) = refCol (z1 (V (Proc.devRef .tc main_arg0))) (c1 (V (Proc.devRef .tc main_arg1))) := by
    after_reads_simp
    rfl
  have h2 : upto ops V 234 (Proc.devRef .tc main_v81) = refCol (z2 (V (Proc.devRef .tc main_arg0))) (c2 (V (Proc.devRef .tc main_arg1))) := by
    after_reads_simp
    rfl
  have h3 : upto ops V 234 (Proc.devRef .tc main_v108) = refCol (z3 (V (Proc.devRef .tc main_arg0))) (c3 (V (Proc.devRef .tc main_arg1))) := by
    after_reads_simp
    rfl
  after_reads_simp
  rw [← h0, ← h1, ← h2, ← h3]
  rfl

/-- Result 2, the losses of the four groups. -/
theorem out_loss (V : Valuation τ sig (Elt F)) :
    after ops V (Proc.devRef .tc main_v111) = concatenate S4 0
      [⟨S1, refLoss (z0 (V (Proc.devRef .tc main_arg0))) (c0 (V (Proc.devRef .tc main_arg1)))⟩,
       ⟨S1, refLoss (z1 (V (Proc.devRef .tc main_arg0))) (c1 (V (Proc.devRef .tc main_arg1)))⟩,
       ⟨S1, refLoss (z2 (V (Proc.devRef .tc main_arg0))) (c2 (V (Proc.devRef .tc main_arg1)))⟩,
       ⟨S1, refLoss (z3 (V (Proc.devRef .tc main_arg0))) (c3 (V (Proc.devRef .tc main_arg1)))⟩]
      concatenates_S1_S1_S1_S1_S4_d0 := by
  have h0 : upto ops V 235 (Proc.devRef .tc main_v26) = refLoss (z0 (V (Proc.devRef .tc main_arg0))) (c0 (V (Proc.devRef .tc main_arg1))) := by
    after_reads_simp
    simp only [TRef.ofBuf_toBuf]
    unfold refLoss refRows refTake refOk refRow refInd refArg refDist z0 c0 refZ refC
    rfl
  have h1 : upto ops V 235 (Proc.devRef .tc main_v53) = refLoss (z1 (V (Proc.devRef .tc main_arg0))) (c1 (V (Proc.devRef .tc main_arg1))) := by
    after_reads_simp
    simp only [TRef.ofBuf_toBuf]
    unfold refLoss refRows refTake refOk refRow refInd refArg refDist z1 c1 refZ refC
    rfl
  have h2 : upto ops V 235 (Proc.devRef .tc main_v80) = refLoss (z2 (V (Proc.devRef .tc main_arg0))) (c2 (V (Proc.devRef .tc main_arg1))) := by
    after_reads_simp
    simp only [TRef.ofBuf_toBuf]
    unfold refLoss refRows refTake refOk refRow refInd refArg refDist z2 c2 refZ refC
    rfl
  have h3 : upto ops V 235 (Proc.devRef .tc main_v107) = refLoss (z3 (V (Proc.devRef .tc main_arg0))) (c3 (V (Proc.devRef .tc main_arg1))) := by
    after_reads_simp
    simp only [TRef.ofBuf_toBuf]
    unfold refLoss refRows refTake refOk refRow refInd refArg refDist z3 c3 refZ refC
    rfl
  after_reads_simp
  rw [← h0, ← h1, ← h2, ← h3]
  rfl

/-- Argument 0 is left as it was. -/
theorem kept_0 (V : Valuation τ sig (Elt F)) : after ops V (Proc.devRef .tc main_arg0) = V (Proc.devRef .tc main_arg0) := by
  after_reads_simp

/-- Argument 1 is left as it was. -/
theorem kept_1 (V : Valuation τ sig (Elt F)) : after ops V (Proc.devRef .tc main_arg1) = V (Proc.devRef .tc main_arg1) := by
  after_reads_simp

/-- The reference's run read: its three results by the functions above, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v109) = refCodes (m ((c : Thread nD τ).loc main_arg0)) (m ((c : Thread nD τ).loc main_arg1))
      ∧ r.2.mem ((c : Thread nD τ).loc main_v110) = refInds (m ((c : Thread nD τ).loc main_arg0)) (m ((c : Thread nD τ).loc main_arg1))
      ∧ r.2.mem ((c : Thread nD τ).loc main_v111) = refLosses (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c main_v109).trans (out_codes _), (h c main_v110).trans (out_inds _),
    (h c main_v111).trans (out_loss _), (h c main_arg0).trans (kept_0 _), (h c main_arg1).trans (kept_1 _)⟩) (run_main m ρ)

end Cert.VQRef
-- ==== Proof.RefArg.lean ====
/-
  The reference's two look-ups read at real inputs: the arg-min along the codebook is the first position of least
  distance, and the row taken at an in-range number is that row of the codebook.
-/
module

public import proofs.«01_k».proof.Proof.RefRead
public import proofs.«01_k».proof.Proof.Math
public import Idealize.ShloMosaic.Lib.StableHlo.Predicate
public import Idealize.ShloMosaic.Lib.ReduceAll

@[expose] public section

noncomputable section

namespace Cert.VQRef

open Cert.ReferenceIdeal Cert.ReferenceIdeal.Gen Idealize.ShloMosaic Idealize.ShloMosaic.Pointwise

/-! ## The arg-min -/

/-- The pair of position `k`: its value and its number. -/
def pair (v : Fin 1024 → ℝ) (k : Fin 1024) : Ideal .f32 × BitVec 32 := (((v k : ℝ) : EReal), BitVec.ofNat 32 k.val)

/-- Position `j` comes before position `k`: a smaller value, or the same value at a smaller number. -/
def Before (v : Fin 1024 → ℝ) (j k : Fin 1024) : Prop := v j < v k ∨ (v j = v k ∧ j ≤ k)

/-- The reducer keeps one of its two positions, and the one kept comes before both. -/
theorem reducer_pair (v : Fin 1024 → ℝ) (j k : Fin 1024) :
    ∃ l, (l = j ∨ l = k) ∧ Before v l j ∧ Before v l k ∧ reducer_argmin_f32_i32 (F := Ideal) (pair v j) (pair v k) = pair v l := by
  have hj := j.isLt
  have hk := k.isLt
  have hs : (BitVec.ofNat 32 j.val).slt (BitVec.ofNat 32 k.val) = decide (j < k) := by
    rw [BitVec.slt, StableHlo.Predicate.toInt_ofNat_small j.val (by omega), StableHlo.Predicate.toInt_ofNat_small k.val (by omega)]
    exact decide_eq_decide.mpr (by rw [Fin.lt_def]; omega)
  have ho : ∀ x : BitVec 1, 1#1 ||| x = 1#1 := by decide
  rcases lt_trichotomy (v j) (v k) with h | h | h
  · refine ⟨j, Or.inl rfl, Or.inr ⟨rfl, le_rfl⟩, Or.inl h, ?_⟩
    simp [reducer_argmin_f32_i32, pair, FloatOps.cmpf, Ideal.cmp, IntOp.ori, IntOp.andi, Scalar.select, h, ho]
  · by_cases hlt : j < k
    · refine ⟨j, Or.inl rfl, Or.inr ⟨rfl, le_rfl⟩, Or.inr ⟨h, hlt.le⟩, ?_⟩
      simp [reducer_argmin_f32_i32, pair, FloatOps.cmpf, Ideal.cmp, IntOp.ori, IntOp.andi, IntOp.cmpi, Scalar.select, h, hs, hlt]
    · refine ⟨k, Or.inr rfl, Or.inr ⟨h.symm, not_lt.mp hlt⟩, Or.inr ⟨rfl, le_rfl⟩, ?_⟩
      simp [reducer_argmin_f32_i32, pair, FloatOps.cmpf, Ideal.cmp, IntOp.ori, IntOp.andi, IntOp.cmpi, Scalar.select, h, hs, hlt]
  · refine ⟨k, Or.inr rfl, Or.inl h, Or.inr ⟨rfl, le_rfl⟩, ?_⟩
    simp [reducer_argmin_f32_i32, pair, FloatOps.cmpf, Ideal.cmp, IntOp.ori, IntOp.andi, IntOp.cmpi, Scalar.select, h.not_gt, h.ne']

/-- Coming before is transitive. -/
theorem Before.trans {v : Fin 1024 → ℝ} {i j k : Fin 1024} (h : Before v i j) (h' : Before v j k) : Before v i k := by
  rcases h with h | ⟨h, l⟩ <;> rcases h' with h' | ⟨h', l'⟩
  · exact Or.inl (h.trans h')
  · exact Or.inl (h' ▸ h)
  · exact Or.inl (h ▸ h')
  · exact Or.inr ⟨h.trans h', l.trans l'⟩

/-- Folded over a list of positions from a position, the reducer keeps a position that comes before them all. -/
theorem foldl_reducer (v : Fin 1024 → ℝ) : ∀ (L : List (Fin 1024)) (a : Fin 1024),
    ∃ l, Before v l a ∧ (∀ k ∈ L, Before v l k) ∧ (L.map (pair v)).foldl (reducer_argmin_f32_i32 (F := Ideal)) (pair v a) = pair v l
  | [], a => ⟨a, Or.inr ⟨rfl, le_rfl⟩, fun _ h => (nomatch h), rfl⟩
  | k :: L, a => by
    obtain ⟨l, -, ha, hk, e⟩ := reducer_pair v a k
    obtain ⟨l', h1, h2, e'⟩ := foldl_reducer v L l
    refine ⟨l', h1.trans ha, ?_, ?_⟩
    · intro x hx
      rcases List.mem_cons.mp hx with rfl | hx
      · exact h1.trans hk
      · exact h2 x hx
    · rw [List.map_cons, List.foldl_cons, e, e']

/-- From above everything the reducer takes the first position it meets. -/
theorem reducer_init (v : Fin 1024 → ℝ) (k : Fin 1024) :
    reducer_argmin_f32_i32 (F := Ideal) ((⊤ : EReal), 0#32) (pair v k) = pair v k := by
  have h1 : ¬ ((⊤ : EReal) < ((v k : ℝ) : EReal)) := not_lt.mpr le_top
  have h2 : ((⊤ : EReal)) ≠ ((v k : ℝ) : EReal) := (EReal.coe_ne_top _).symm
  simp [reducer_argmin_f32_i32, pair, FloatOps.cmpf, Ideal.cmp, IntOp.ori, IntOp.andi, Scalar.select, h1, h2]

/-- The reducer folded over a list that holds every position keeps one that comes before every position. -/
theorem foldl_reducer_all (v : Fin 1024 → ℝ) (L : List (Fin 1024)) (hL : ∀ k, k ∈ L) :
    ∃ l, (∀ k, Before v l k) ∧ (L.map (pair v)).foldl (reducer_argmin_f32_i32 (F := Ideal)) ((⊤ : EReal), 0#32) = pair v l := by
  match L, hL with
  | [], hL => exact absurd (hL 0) (by simp)
  | a :: L, hL =>
    obtain ⟨l, h1, h2, e⟩ := foldl_reducer v L a
    refine ⟨l, fun k => ?_, ?_⟩
    · rcases List.mem_cons.mp (hL k) with rfl | hk
      · exact h1
      · exact h2 k hk
    · rw [List.map_cons, List.foldl_cons, reducer_init, e]

/-- A two-operand reduction by the reducer, from above everything, whose fiber over `j` holds the pairs of the positions
    `c i` and every position among them: it keeps a position that comes before every other. -/
theorem reduce2_first {s t u : Shape} {axes : List (Fin s.rank)} (x : s.Idx → Ideal .f32) (y : s.Idx → BitVec 32)
    (ix : u.Idx → Ideal .f32) (iy : u.Idx → BitVec 32) (h : s.ReducesTo axes t) (hu : 0 < u.numel) (j : t.Idx)
    (v : Fin 1024 → ℝ) (c : s.Idx → Fin 1024) (hc : ∀ i, h.drop i = j → (x i, y i) = pair v (c i))
    (hall : ∀ k, ∃ i, h.drop i = j ∧ c i = k) (hx : ix (Shape.Idx.first hu) = (⊤ : EReal)) (hy : iy (Shape.Idx.first hu) = 0#32) :
    ∃ l, (∀ k, Before v l k) ∧ Host.reduce2 (reducer_argmin_f32_i32 (F := Ideal)) x y ix iy h hu j = pair v l := by
  obtain ⟨l, hl, e⟩ := foldl_reducer_all v (((List.finRange s.numel).filter fun p => h.drop (s.rowMajor.symm p) = j).map
      fun p => c (s.rowMajor.symm p)) (fun k => by
    obtain ⟨i, hi, hk⟩ := hall k
    refine List.mem_map.mpr ⟨s.rowMajor i, List.mem_filter.mpr ⟨List.mem_finRange _, ?_⟩, ?_⟩
    · rw [decide_eq_true_eq, Equiv.symm_apply_apply]; exact hi
    · rw [Equiv.symm_apply_apply]; exact hk)
  refine ⟨l, hl, ?_⟩
  rw [Host.reduce2_eq_foldl_fiber, hx, hy, ← e, Host.argReduceFiber, List.map_map]
  congr 1
  exact List.map_congr_left fun p hp => hc _ (of_decide_eq_true (List.mem_filter.mp hp).2)

/-- The source indices that reduce into `(b, n)` are those of its row. -/
theorem drop_eq_iff (b : Fin 8) (n : Fin 576) (i : S8x576x1024.Idx) :
    (reducesTo_S8x576x1024_S8x576_d2).drop i = ix2 b n ↔ i = ix3 b n (i 2) := by
  have v0 := Shape.ReducesTo.drop_apply_val_of_eq reducesTo_S8x576x1024_S8x576_d2 i 0 0
  have v1 := Shape.ReducesTo.drop_apply_val_of_eq reducesTo_S8x576x1024_S8x576_d2 i 1 1
  constructor
  · intro h
    rw [h] at v0 v1
    funext a
    match a with
    | ⟨0, _⟩ => exact Fin.ext v0.symm
    | ⟨1, _⟩ => exact Fin.ext v1.symm
    | ⟨2, _⟩ => rfl
  · intro h
    have e0 : (i 0).val = b.val := congrArg Fin.val (congrFun h 0)
    have e1 : (i 1).val = n.val := congrArg Fin.val (congrFun h 1)
    funext a
    match a with
    | ⟨0, _⟩ => exact Fin.ext (v0.trans e0)
    | ⟨1, _⟩ => exact Fin.ext (v1.trans e1)

/-- The number laid down at an index is its last coordinate. -/
theorem iota_apply (i : S8x576x1024.Idx) (k : Fin 1024) (h : (i 2).val = k.val) :
    iotaInDim S8x576x1024 32 2 i = BitVec.ofNat 32 k.val := congrArg (BitVec.ofNat 32) h

/-- The arg-min, as a function of the place. -/
theorem refArg_fun {F : FTy → Type} [FloatOps F] (x : Vec F S8x576x1024 .f32) :
    refArg x = fun j => (Host.argReduce reducer_argmin_f32_i32 x (iotaInDim S8x576x1024 32 2)
      (constant S_ .f32 0x7F800000#32) (constantI S_ 32 0#32) reducesTo_S8x576x1024_S8x576_d2 h_S_ j).2 := rfl

/-- The arg-min is the plain fold: no extended real differs from itself. -/
theorem refArg_eq (x : Vec Ideal S8x576x1024 .f32) :
    refArg x = fun j => (Host.reduce2 (reducer_argmin_f32_i32 (F := Ideal)) x (iotaInDim S8x576x1024 32 2)
      (constant S_ .f32 0x7F800000#32) (constantI S_ 32 0#32) reducesTo_S8x576x1024_S8x576_d2 h_S_ j).2 := by
  rw [refArg_fun, Ideal.argReduce_eq_reduce2]

/-- The value the arg-min starts from is above everything. -/
theorem inf_apply (j : S_.Idx) : (constant S_ .f32 0x7F800000#32 : FVec Ideal S_ .f32) j = (⊤ : EReal) := VQ.ofBits_inf

/-- The last coordinate of an index of the distances. -/
def last (i : S8x576x1024.Idx) : Fin 1024 := ⟨(i 2).val, (i 2).isLt⟩

/-- A value whose index reduces into `(b, n)` is the one of its last coordinate. -/
theorem val_apply (x : Vec Ideal S8x576x1024 .f32) (v : Fin 8 → Fin 576 → Fin 1024 → ℝ)
    (hx : ∀ b n k, x (ix3 b n k) = ((v b n k : ℝ) : EReal)) (b : Fin 8) (n : Fin 576) (i : S8x576x1024.Idx)
    (hi : (reducesTo_S8x576x1024_S8x576_d2).drop i = ix2 b n) : x i = ((v b n (last i) : ℝ) : EReal) := by
  have h : i = ix3 b n (last i) := (drop_eq_iff b n i).mp hi
  exact (congrArg x h).trans (hx b n _)

/-- Every position is met at `(b, n)`. -/
theorem exists_apply (b : Fin 8) (n : Fin 576) (k : Fin 1024) : ∃ i : S8x576x1024.Idx, (reducesTo_S8x576x1024_S8x576_d2).drop i = ix2 b n ∧ last i = k :=
  ⟨ix3 b n k, (drop_eq_iff b n _).mpr rfl, rfl⟩

/-- The arg-min of real values, along the codebook: a position that comes before every other. -/
theorem refArg_apply (x : Vec Ideal S8x576x1024 .f32) (v : Fin 8 → Fin 576 → Fin 1024 → ℝ)
    (hx : ∀ b n k, x (ix3 b n k) = ((v b n k : ℝ) : EReal)) (b : Fin 8) (n : Fin 576) :
    ∃ l : Fin 1024, (∀ k, Before (v b n) l k) ∧ refArg x (ix2 b n) = BitVec.ofNat 32 l.val := by
  have H := reduce2_first x (iotaInDim S8x576x1024 32 2) (constant S_ .f32 0x7F800000#32) (constantI S_ 32 0#32)
    reducesTo_S8x576x1024_S8x576_d2 h_S_ (ix2 b n) (v b n) last
    (fun i hi => Prod.ext (val_apply x v hx b n i hi) (iota_apply i (last i) rfl))
    (exists_apply b n) (inf_apply _) rfl
  exact H.elim fun l h => ⟨l, h.1, (congrFun (refArg_eq x) _).trans (congrArg Prod.snd h.2)⟩

/-! ## The row taken -/

/-- A gather of whole rows reads, at row number `k` below 1024, row `k`. -/
theorem gather_row (cb : Vec Ideal S1024x128 .f32) (idx : IVec S8x576x1 32) (b : Fin 8) (n : Fin 576) (d : Fin 128) (k : Fin 1024)
    (hk : idx (ix3 b n 0) = BitVec.ofNat 32 k.val) :
    Host.gather gather_S1024x128_S8x576x1_S8x576x128_2_0_n_n_0_2_1128 cb idx (ix3 b n d) = cb (ix2 k d) := by
  have hkl := k.isLt
  have hs : ∀ q, (gather_S1024x128_S8x576x1_S8x576x128_2_0_n_n_0_2_1128).siIdx (ix3 b n d) q = ix3 b n 0 := fun q => funext fun c =>
    match c with
    | ⟨0, _⟩ => rfl
    | ⟨1, _⟩ => rfl
    | ⟨2, _⟩ => Fin.ext (Nat.lt_one_iff.mp (Fin.isLt _))
  have h0 : min (idx ((gather_S1024x128_S8x576x1_S8x576x128_2_0_n_n_0_2_1128).siIdx (ix3 b n d) ⟨0, by decide⟩)).toInt.toNat 1023 = k.val := by
    rw [hs, hk, StableHlo.Predicate.toInt_ofNat_small _ (by omega)]
    omega
  refine congrArg cb (funext fun a => Fin.ext ?_)
  match a with
  | ⟨0, _⟩ => exact h0
  | ⟨1, _⟩ => exact Nat.zero_add _

/-- A row number below 1024 is used as it is. -/
theorem refRow_apply (i : Vec Ideal S8x576 .i32) (b : Fin 8) (n : Fin 576) (k : Fin 1024) (hi : i (ix2 b n) = BitVec.ofNat 32 k.val) :
    refRow (F := Ideal) i (ix3 b n 0) = BitVec.ofNat 32 k.val := by
  have hk := k.isLt
  have hn : IntOp.cmpi .slt (BitVec.ofNat 32 k.val) 0#32 = 0#1 := by
    refine ValueIdx.eq_zero_of_ne_one fun e => ?_
    unfold IntOp.cmpi at e
    have e' : (BitVec.ofNat 32 k.val).slt 0#32 = true := by
      cases h : (BitVec.ofNat 32 k.val).slt 0#32
      · simp [h] at e
      · rfl
    rw [BitVec.slt, StableHlo.Predicate.toInt_ofNat_small _ (by omega)] at e'
    simp at e'
    omega
  pointwise [refRow]
  simp only [hi, hn]
  rfl

/-- Row numbers that are all below 1024 are all in range. -/
theorem refOk_apply (v : Vec Ideal S8x576x1 .i32) (hv : ∀ b n, ∃ k : Fin 1024, v (ix3 b n 0) = BitVec.ofNat 32 k.val) (j : S8x576.Idx) :
    refOk (F := Ideal) v j = 1#1 := by
  unfold refOk
  refine Host.reduce_andi_one _ _ _ _ j rfl fun i => ?_
  obtain ⟨b, n, rfl⟩ : ∃ (b : Fin 8) (n : Fin 576), i = ix3 b n 0 := by
    refine ⟨i 0, i 1, funext fun a => ?_⟩
    match a with
    | ⟨0, _⟩ => rfl
    | ⟨1, _⟩ => rfl
    | ⟨2, _⟩ => exact Fin.ext (Nat.lt_one_iff.mp (i 2).isLt)
  obtain ⟨k, hk⟩ := hv b n
  have hkl := k.isLt
  have key : (andi (cmpi .sge v (broadcastInDim S8x576x1 ![] bcast_S_S8x576x1 (constantI S_ 32 0#32)))
      (cmpi .sle v (broadcastInDim S8x576x1 ![0, 1, 2] bcast_S1x1x1_S8x576x1_0_1_2
        (broadcastInDim S1x1x1 ![2] bcast_S1_S1x1x1_2 (constantI S1 32 1023#32))))) (ix3 b n 0)
      = IntOp.andi (IntOp.cmpi .sge (v (ix3 b n 0)) 0#32) (IntOp.cmpi .sle (v (ix3 b n 0)) 1023#32) := rfl
  rw [key, hk]
  have h1 : (0#32).sle (BitVec.ofNat 32 k.val) = true := by
    rw [BitVec.sle, StableHlo.Predicate.toInt_ofNat_small k.val (by omega)]; simp
  have h2 : (BitVec.ofNat 32 k.val).sle 1023#32 = true := by
    rw [BitVec.sle, StableHlo.Predicate.toInt_ofNat_small k.val (by omega)]; simp; omega
  simp [IntOp.cmpi, IntOp.andi, h1, h2]

/-- The rows taken at row numbers that are all below 1024 are the codebook's rows. -/
theorem refTake_apply (cb : Vec Ideal S1024x128 .f32) (i : Vec Ideal S8x576 .i32) (f : Fin 8 → Fin 576 → Fin 1024)
    (hi : ∀ b n, i (ix2 b n) = BitVec.ofNat 32 (f b n).val) (b : Fin 8) (n : Fin 576) (d : Fin 128) :
    refTake cb i (ix3 b n d) = cb (ix2 (f b n) d) := by
  have key : ∀ (ok : IVec S8x576 1) (g : FVec Ideal S8x576x128 .f32), ok (ix2 b n) = 1#1 →
      select (broadcastInDim S8x576x128 ![0, 1] bcast_S8x576_S8x576x128_0_1 ok) g
        (broadcastInDim S8x576x128 ![] bcast_S_S8x576x128 (constant S_ .f32 0x7FC00000#32 : FVec Ideal S_ .f32)) (ix3 b n d) = g (ix3 b n d) := by
    intro ok g h
    pointwise
    simp only [h]
    rfl
  unfold refTake
  rw [key _ _ (refOk_apply _ (fun b n => ⟨f b n, refRow_apply i b n _ (hi b n)⟩) _)]
  exact gather_row cb _ b n d _ (refRow_apply i b n _ (hi b n))

end Cert.VQRef

end
-- ==== Proof.RefValue.lean ====
/-
  What the reference computes of one group and its codebook block when both are real: the nearest codes, the looked-up
  rows, the code and the loss, named by the mathematics of Math.lean; and the groups and blocks cut out of the arguments.
-/
module

public import proofs.«01_k».proof.Proof.RefArg

@[expose] public section

noncomputable section

namespace Cert.VQRef

open Cert.ReferenceIdeal Cert.ReferenceIdeal.Gen Idealize.ShloMosaic Idealize.ShloMosaic.Pointwise
open Cert.VQ (score best best_spec resid IsFirstMax)

/-! ## One group -/

section Group

variable (z : Vec Ideal S8x576x128 .f32) (cb : Vec Ideal S1024x128 .f32)
variable (Z : Fin 8 → Fin 576 → Fin 128 → ℝ) (C : Fin 1024 → Fin 128 → ℝ)

/-- The group and the codebook block are the real arrays `Z` and `C`. -/
def IsGroup : Prop := (∀ b n d, z (ix3 b n d) = ((Z b n d : ℝ) : EReal)) ∧ ∀ k d, cb (ix2 k d) = ((C k d : ℝ) : EReal)

variable {z cb Z C}

/-- A distance is the row's squared length less twice the score. -/
theorem refDist_apply (h : IsGroup z cb Z C) (b : Fin 8) (n : Fin 576) (k : Fin 1024) :
    refDist z cb (ix3 b n k) = (((∑ d, Z b n d * Z b n d) - 2 * score (Z b n) C k : ℝ) : EReal) := by
  rw [← VQ.dist_eq]
  pointwise [refDist]
  simp only [h.1, h.2, VQ.ofBits_two, ← EReal.coe_mul, ← VQ.coe_sum, ← EReal.coe_sub, ← EReal.coe_add]

/-- The nearest code of a row is the first of greatest score. -/
theorem refInd_apply (h : IsGroup z cb Z C) (b : Fin 8) (n : Fin 576) :
    refInd z cb (ix2 b n) = BitVec.ofNat 32 (best (Z b n) C).val := by
  obtain ⟨l, hl, e⟩ := refArg_apply (refDist z cb) (fun b n k => (∑ d, Z b n d * Z b n d) - 2 * score (Z b n) C k)
    (refDist_apply h) b n
  have hf : IsFirstMax (score (Z b n) C) l := by
    refine ⟨fun j => ?_, fun j hj => ?_⟩
    · rcases hl j with h | ⟨h, -⟩ <;> linarith
    · rcases hl j with h | ⟨-, h⟩
      · linarith
      · exact h
  rw [← hf.unique (best_spec (Z b n) C)]
  exact e

/-- The looked-up rows are the codebook's rows at the nearest codes. -/
theorem refRows_apply (h : IsGroup z cb Z C) (b : Fin 8) (n : Fin 576) (d : Fin 128) :
    refRows z cb (ix3 b n d) = ((C (best (Z b n) C) d : ℝ) : EReal) :=
  (refTake_apply cb (refInd z cb) (fun b n => best (Z b n) C) (refInd_apply h) b n d).trans (h.2 _ _)

/-- The code is the looked-up row: among reals the group cancels. -/
theorem refCode_apply (h : IsGroup z cb Z C) (b : Fin 8) (n : Fin 576) (d : Fin 128) :
    refCode z cb (ix3 b n d) = ((C (best (Z b n) C) d : ℝ) : EReal) := by
  have key : ∀ q : FVec Ideal S8x576x128 .f32, (addf z (subf q z) : FVec Ideal S8x576x128 .f32) (ix3 b n d)
      = z (ix3 b n d) + (q (ix3 b n d) - z (ix3 b n d)) := by
    intro q
    pointwise
  refine (key (refRows z cb)).trans ?_
  rw [refRows_apply h, h.1, ← EReal.coe_sub, ← EReal.coe_add]
  congr 1
  ring

/-- The nearest codes with their last axis of one. -/
theorem refCol_apply (h : IsGroup z cb Z C) (b : Fin 8) (n : Fin 576) :
    refCol z cb (ix3 b n 0) = BitVec.ofNat 32 (best (Z b n) C).val := by
  have key : ∀ q : IVec S8x576 32, broadcastInDim S8x576x1 ![0, 1] bcast_S8x576_S8x576x1_0_1 q (ix3 b n 0) = q (ix2 b n) := by
    intro q
    pointwise
  exact (key (refInd z cb)).trans (refInd_apply h b n)

/-- The loss is the mean of the squared distances. -/
theorem refLoss_apply (h : IsGroup z cb Z C) :
    refLoss z cb (ix1 0) = (((∑ b, ∑ n, resid (Z b n) C) / 589824 : ℝ) : EReal) := by
  have key : ∀ q : FVec Ideal S8x576x128 .f32, broadcastInDim S1 ![] bcast_S_S1
      (Host.divf (Host.reduceAdd (mulf (subf z q) (subf z q)) (constant S_ .f32 0x00000000#32)
        reducesTo_S8x576x128_S_d0_1_2 h_S_) (constant S_ .f32 0x49100000#32)) (ix1 0)
      = Ideal.div (∑ b : Fin 8, ∑ n : Fin 576, ∑ d : Fin 128,
          (z (ix3 b n d) - q (ix3 b n d)) * (z (ix3 b n d) - q (ix3 b n d))) (Ideal.ofBits .f32 0x49100000#32) := by
    intro q
    pointwise
  refine (key (refRows z cb)).trans ?_
  simp only [refRows_apply h, h.1, ← EReal.coe_sub, ← EReal.coe_mul, ← VQ.coe_sum]
  rw [VQ.ofBits_count, VQ.div_coe' _ _ (by norm_num)]
  rfl

end Group

/-! ## The groups and blocks of the arguments -/

/-- A codebook block read at an index. -/
theorem c_apply (y : Vec Ideal S4x1024x128 .f32) (k : Fin 1024) (d : Fin 128) :
    c0 y (ix2 k d) = y (ix3 0 k d) ∧ c1 y (ix2 k d) = y (ix3 1 k d) ∧ c2 y (ix2 k d) = y (ix3 2 k d) ∧ c3 y (ix2 k d) = y (ix3 3 k d) := by
  refine ⟨?_, ?_, ?_, ?_⟩ <;> pointwise [refC] <;> rfl

/-- A group read at an index: the input at the group's columns. -/
theorem z_apply (x : Vec Ideal S8x576x512 .f32) (b : Fin 8) (n : Fin 576) (d : Fin 128) :
    z0 x (ix3 b n d) = x (ix3 b n ⟨128 * 0 + d.val, by omega⟩) ∧ z1 x (ix3 b n d) = x (ix3 b n ⟨128 * 1 + d.val, by omega⟩)
    ∧ z2 x (ix3 b n d) = x (ix3 b n ⟨128 * 2 + d.val, by omega⟩) ∧ z3 x (ix3 b n d) = x (ix3 b n ⟨128 * 3 + d.val, by omega⟩) := by
  refine ⟨?_, ?_, ?_, ?_⟩ <;> pointwise [refZ]

/-! ## The results side by side -/

/-- The four codes side by side, read at column `128 i + d`. -/
theorem cat_codes (f : Fin 4 → FVec Ideal S8x576x128 .f32) (b : Fin 8) (n : Fin 576) (j : Fin 512) :
    concatenate S8x576x512 2 [⟨S8x576x128, f 0⟩, ⟨S8x576x128, f 1⟩, ⟨S8x576x128, f 2⟩, ⟨S8x576x128, f 3⟩]
      concatenates_S8x576x128_S8x576x128_S8x576x128_S8x576x128_S8x576x512_d2 (ix3 b n j)
    = f ⟨j.val / 128, by omega⟩ (ix3 b n ⟨j.val % 128, by omega⟩) := by
  have hj := j.isLt
  have key : ∀ (i i' : Fin 4) (p p' : Fin 128), i.val = i'.val → p.val = p'.val → f i (ix3 b n p) = f i' (ix3 b n p') :=
    fun i i' p p' hi hp => by rw [Fin.ext hi, Fin.ext hp]
  pointwise
  by_cases h0 : j.val < 128
  · rw [dif_pos h0]
    exact key 0 ⟨j.val / 128, by omega⟩ ⟨j.val, by omega⟩ ⟨j.val % 128, by omega⟩ (by show 0 = j.val / 128; omega) (by show j.val = j.val % 128; omega)
  rw [dif_neg h0]
  by_cases h1 : j.val - 128 < 128
  · rw [dif_pos h1]
    exact key 1 ⟨j.val / 128, by omega⟩ ⟨j.val - 128, by omega⟩ ⟨j.val % 128, by omega⟩ (by show 1 = j.val / 128; omega) (by show j.val - 128 = j.val % 128; omega)
  rw [dif_neg h1]
  by_cases h2 : j.val - 128 - 128 < 128
  · rw [dif_pos h2]
    exact key 2 ⟨j.val / 128, by omega⟩ ⟨j.val - 128 - 128, by omega⟩ ⟨j.val % 128, by omega⟩ (by show 2 = j.val / 128; omega) (by show j.val - 128 - 128 = j.val % 128; omega)
  rw [dif_neg h2]
  exact key 3 ⟨j.val / 128, by omega⟩ ⟨j.val - 128 - 128 - 128, by omega⟩ ⟨j.val % 128, by omega⟩ (by show 3 = j.val / 128; omega) (by show j.val - 128 - 128 - 128 = j.val % 128; omega)

/-- The four columns of nearest codes side by side, read at column `k`. -/
theorem cat_inds (f : Fin 4 → IVec S8x576x1 32) (b : Fin 8) (n : Fin 576) (k : Fin 4) :
    concatenate S8x576x4 2 [⟨S8x576x1, f 0⟩, ⟨S8x576x1, f 1⟩, ⟨S8x576x1, f 2⟩, ⟨S8x576x1, f 3⟩]
      concatenates_S8x576x1_S8x576x1_S8x576x1_S8x576x1_S8x576x4_d2 (ix3 b n k) = f k (ix3 b n 0) := by
  pointwise
  fin_cases k <;> rfl

/-- The four losses side by side, read at place `k`. -/
theorem cat_losses (f : Fin 4 → FVec Ideal S1 .f32) (k : Fin 4) :
    concatenate S4 0 [⟨S1, f 0⟩, ⟨S1, f 1⟩, ⟨S1, f 2⟩, ⟨S1, f 3⟩] concatenates_S1_S1_S1_S1_S4_d0 (ix1 k) = f k (ix1 0) := by
  pointwise
  fin_cases k <;> rfl

end Cert.VQRef

end
-- ==== Proof.Agree.lean ====
/-
  The two programs agree: what the precondition says of the arguments, the reference's three results named by the
  mathematics of Math.lean, and the kernel's three results equal to them.
-/
module

public import proofs.«01_k».proof.Defs
public import proofs.«01_k».proof.Proof.KernelValue
public import proofs.«01_k».proof.Proof.RefRead
public import proofs.«01_k».proof.Proof.RefValue
public import proofs.«01_k».proof.Proof.Gen.Pre_finite
public import Idealize.ShloMosaic.Lib.ReduceAll
public import Idealize.ShloMosaic.Lib.Quiescent

@[expose] public section

noncomputable section

namespace Cert.VQ

open Idealize.ShloMosaic Idealize.ShloMosaic.TcCoe Idealize.ShloMosaic.Pointwise Idealize.SL.Sem

/-! ## The precondition -/

/-- An extended real whose absolute value is below `+∞` is a real. -/
theorem real_of_abs_lt (a : EReal) (h : max a (-a) < ⊤) : ∃ r : ℝ, a = (r : EReal) := by
  induction a using EReal.rec with
  | bot => exact absurd h (by simp)
  | top => exact absurd h (by simp)
  | coe r => exact ⟨r, rfl⟩

/-- An array whose every entry passes the test `|x| < ∞` holds reals. -/
theorem real_of_all {s u : Shape} {axes : List (Fin s.rank)} (x : FVec Ideal s .f32) (hb : (⟨0, ![]⟩ : Shape).BroadcastsInDim s (![] : Fin 0 → Fin s.rank))
    (init : u.Idx → BitVec 1) (hr : s.ReducesTo axes (⟨0, ![]⟩ : Shape)) (hu : 0 < u.numel) (j : (⟨0, ![]⟩ : Shape).Idx)
    (h : Host.reduce IntOp.andi (cmpf .olt (Host.absf x) (broadcastInDim s ![] hb (constant (⟨0, ![]⟩ : Shape) .f32 0x7F800000#32)))
      init hr hu j = 1#1) (i : s.Idx) : ∃ r : ℝ, x i = (r : EReal) := by
  haveI : Subsingleton (⟨0, ![]⟩ : Shape).Idx := ⟨fun a b => funext fun k => k.elim0⟩
  have e := Host.reduce_andi_all _ _ hr hu j h i
  apply real_of_abs_lt
  have e' : Ideal.cmp .olt (max (x i) (-(x i))) (Ideal.ofBits .f32 0x7F800000#32) = 1#1 := e
  rw [ofBits_inf] at e'
  by_contra hc
  simp [Ideal.cmp, hc] at e'

/-- Under the precondition both arguments hold reals. -/
theorem real_of_pre (x : FVec Ideal Cert.Pre_finite.S8x576x512 .f32) (y : FVec Ideal Cert.Pre_finite.S4x1024x128 .f32)
    (h : Cert.Pre_finite.fn x y = fun _ => 1#1) :
    (∃ X : Fin 8 → Fin 576 → Fin 512 → ℝ, ∀ b n j, x (ix3 b n j) = ((X b n j : ℝ) : EReal))
    ∧ ∃ K : Fin 4 → Fin 1024 → Fin 128 → ℝ, ∀ i k d, y (ix3 i k d) = ((K i k d : ℝ) : EReal) := by
  have h0 := congrFun h (fun k => k.elim0)
  obtain ⟨h1, h2⟩ := IntOp.andi_eq_one.1 h0
  have hx := real_of_all x _ _ _ _ _ h1
  have hy := real_of_all y _ _ _ _ _ h2
  exact ⟨⟨fun b n j => (hx (ix3 b n j)).choose, fun b n j => (hx (ix3 b n j)).choose_spec⟩,
    ⟨fun i k d => (hy (ix3 i k d)).choose, fun i k d => (hy (ix3 i k d)).choose_spec⟩⟩

/-! ## The mean over the rows -/

/-- A sum over the flattened rows is the sum over batch entries and places. -/
theorem sum_rows (f : Fin 8 → Fin 576 → ℝ) : ∑ r : Fin 4608, f (rowB r) (rowN r) = ∑ b, ∑ n, f b n := by
  rw [← Finset.sum_product', Finset.univ_product_univ]
  refine Finset.sum_bij' (fun r _ => (rowB r, rowN r)) (fun p _ => row p.1 p.2) (fun _ _ => Finset.mem_univ _)
    (fun _ _ => Finset.mem_univ _) (fun r _ => ?_) (fun p _ => ?_) (fun _ _ => rfl)
  · exact Fin.ext (by show 576 * (r.val / 576) + r.val % 576 = r.val; omega)
  · have := p.2.isLt
    exact Prod.ext (Fin.ext (by show (576 * p.1.val + p.2.val) / 576 = p.1.val; omega))
      (Fin.ext (by show (576 * p.1.val + p.2.val) % 576 = p.2.val; omega))

/-- The loss of group `i` as a mean over batch entries and places. -/
theorem loss_eq (X : Fin 8 → Fin 576 → Fin 512 → ℝ) (K : Fin 4 → Fin 1024 → Fin 128 → ℝ) (i : Fin 4) :
    loss X K i = (∑ b, ∑ n, resid (vec X i b n) (K i)) / 589824 := by
  unfold loss
  rw [← sum_rows fun b n => resid (vec X i b n) (K i)]
  rfl

end Cert.VQ

namespace Cert.VQRef

open Cert.ReferenceIdeal Cert.ReferenceIdeal.Gen Idealize.ShloMosaic Idealize.ShloMosaic.TcCoe Idealize.ShloMosaic.Pointwise
open Idealize.SL.Sem
open Cert.VQ (best vec loss colI colD)

/-! ## The reference's results -/

section Values

variable (x : Vec Ideal S8x576x512 .f32) (y : Vec Ideal S4x1024x128 .f32)

/-- Group `i` of the input. -/
def zOf (i : Fin 4) : Vec Ideal S8x576x128 .f32 := ![z0 x, z1 x, z2 x, z3 x] i
/-- Codebook block `i`. -/
def cOf (i : Fin 4) : Vec Ideal S1024x128 .f32 := ![c0 y, c1 y, c2 y, c3 y] i

variable {x y}
variable {X : Fin 8 → Fin 576 → Fin 512 → ℝ} {K : Fin 4 → Fin 1024 → Fin 128 → ℝ}
variable (hx : ∀ b n j, x (ix3 b n j) = ((X b n j : ℝ) : EReal)) (hy : ∀ i k d, y (ix3 i k d) = ((K i k d : ℝ) : EReal))

include hx hy in
/-- Group `i` and codebook block `i` hold the reals of the arguments. -/
theorem isGroup (i : Fin 4) : IsGroup (zOf x i) (cOf y i) (vec X i) (K i) := by
  refine ⟨fun b n d => ?_, fun k d => ?_⟩
  · have h := z_apply x b n d
    match i with
    | 0 => exact h.1.trans (hx _ _ _)
    | 1 => exact h.2.1.trans (hx _ _ _)
    | 2 => exact h.2.2.1.trans (hx _ _ _)
    | 3 => exact h.2.2.2.trans (hx _ _ _)
  · have h := c_apply y k d
    match i with
    | 0 => exact h.1.trans (hy _ _ _)
    | 1 => exact h.2.1.trans (hy _ _ _)
    | 2 => exact h.2.2.1.trans (hy _ _ _)
    | 3 => exact h.2.2.2.trans (hy _ _ _)

include hx hy in
/-- The reference's codes: each group of a row replaced by its chosen codebook row. -/
theorem refCodes_apply (b : Fin 8) (n : Fin 576) (j : Fin 512) :
    refCodes x y (ix3 b n j) = ((K (colI j) (best (vec X (colI j) b n) (K (colI j))) (colD j) : ℝ) : EReal) :=
  (cat_codes (fun i => refCode (zOf x i) (cOf y i)) b n j).trans (refCode_apply (isGroup hx hy (colI j)) b n (colD j))

include hx hy in
/-- The reference's indices: the numbers of the chosen rows. -/
theorem refInds_apply (b : Fin 8) (n : Fin 576) (k : Fin 4) :
    refInds x y (ix3 b n k) = BitVec.ofNat 32 (best (vec X k b n) (K k)).val :=
  (cat_inds (fun i => refCol (zOf x i) (cOf y i)) b n k).trans (refCol_apply (isGroup hx hy k) b n)

include hx hy in
/-- The reference's losses: the means of the squared distances. -/
theorem refLosses_apply (k : Fin 4) : refLosses x y (ix1 k) = ((loss X K k : ℝ) : EReal) := by
  rw [VQ.loss_eq]
  exact (cat_losses (fun i => refLoss (zOf x i) (cOf y i)) k).trans (refLoss_apply (isGroup hx hy k))

end Values

/-- The reference terminates with its arguments unchanged and, having no semaphore, every counter at zero. -/
theorem quiescent (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => ⟨(h c).2.2.2.1, (h c).2.2.2.2⟩, sem_eq_zero_of_no_sems (by decide) r.2⟩) (run m ρ)

end Cert.VQRef

namespace Cert.VQ

open Cert.KernelIdeal Cert.KernelIdeal.Gen Idealize.ShloMosaic Idealize.ShloMosaic.TcCoe Idealize.ShloMosaic.Pointwise
open Idealize.SL.Sem

/-- From real arguments the kernel ends with the reference's three results in its own three. -/
theorem kernel_agrees (m : (ℓ : Loc nD τ sig) → Buf (Elt Ideal) ℓ) (ρ : Dev nD → PrngReg) (hpre : Cert.Pre_KernelIdeal_finite m) :
    θ_run defs (onTc (τ := τ) (main (F := Ideal))) ⟨m, fun _ => 0, ρ⟩ fun r => ∀ c : Dev nD,
      r.2.mem ((c : Thread nD τ).loc main_v0_0)
        = VQRef.refCodes (F := Ideal) (m ((c : Thread nD τ).loc main_arg0)) (m ((c : Thread nD τ).loc main_arg1))
      ∧ r.2.mem ((c : Thread nD τ).loc main_v0_1)
        = VQRef.refInds (F := Ideal) (m ((c : Thread nD τ).loc main_arg0)) (m ((c : Thread nD τ).loc main_arg1))
      ∧ r.2.mem ((c : Thread nD τ).loc main_v0_2)
        = VQRef.refLosses (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  obtain ⟨⟨X, hX⟩, ⟨K, hK⟩⟩ := real_of_pre _ _ (hpre 0)
  have one : ∀ c : Dev nD, c = 0 := by decide
  have hargs : ∀ c : Dev nD, IsArgs m X K c := fun c => by rw [one c]; exact ⟨hX, hK⟩
  refine (θ_run defs _ _).mono (fun r hr c => ?_) (kernel_run m X K ρ hargs)
  obtain ⟨h0, h1, h2, h3, h4⟩ := hr c
  refine ⟨?_, ?_, ?_, h3, h4⟩
  · funext p
    obtain ⟨b, n, j, rfl⟩ : ∃ b n j, p = ix3 b n j := ⟨p 0, p 1, p 2, (ix3_eta p).symm⟩
    exact (h0 b n j).trans (VQRef.refCodes_apply (hargs c).1 (hargs c).2 b n j).symm
  · funext p
    obtain ⟨b, n, k, rfl⟩ : ∃ b n k, p = ix3 b n k := ⟨p 0, p 1, p 2, (ix3_eta p).symm⟩
    exact (h1 b n k).trans (VQRef.refInds_apply (hargs c).1 (hargs c).2 b n k).symm
  · funext p
    obtain ⟨k, rfl⟩ : ∃ k, p = ix1 k := ⟨p 0, (ix1_eta p).symm⟩
    exact (h2 k).trans (VQRef.refLosses_apply (hargs c).1 (hargs c).2 k).symm

end Cert.VQ

end
-- ==== Proof.lean ====
/-
  The certificate of the vector quantiser. The kernel's frames are its launch's; the reference's frame is its run, which
  declares no semaphore; the value claim is `Cert.VQ.kernel_agrees` beside the reference's run, on finite arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The kernel terminates with its arguments unchanged and its semaphore counters at zero. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- So it does from finite arguments. -/
theorem frame_pi_finite : Cert.quiescent_KernelIdeal_pre_finite := fun m ρ _ => Cert.KernelIdeal.Gen.frame m ρ

/-- The reference terminates with its arguments unchanged and its semaphore counters at zero. -/
theorem frame_ri : Cert.quiescent_ReferenceIdeal := fun m ρ _ => Cert.VQRef.quiescent m ρ

/-- So it does from finite arguments. -/
theorem frame_ri_finite : Cert.quiescent_ReferenceIdeal_pre_finite := fun m ρ _ => Cert.VQRef.quiescent m ρ

/-- From the same finite arguments the kernel and the reference end with equal codes, indices and losses. -/
theorem algebraic : Cert.algebraic_KernelIdeal_ReferenceIdeal_pre_finite := by
  intro m g m' g' hpre hagree
  refine ⟨_, _, _, Cert.VQ.kernel_agrees m g hpre,
    (θ_run Cert.ReferenceIdeal.defs _ _).mono (fun r h c => ?_) (Cert.VQRef.run m' g')⟩
  obtain ⟨h0, h1, h2, h3, h4⟩ := h c
  obtain ⟨e0, e1⟩ := hagree c
  rw [e0, e1] at h0 h1 h2
  exact ⟨h0, h1, h2, h3, h4⟩

/-- Everything the certificate claims. -/
theorem claim : Cert.Claim :=
  ⟨Cert.Kernel.Gen.facts, Cert.KernelIdeal.Gen.facts, Cert.ReferenceIdeal.Gen.facts, Cert.Pre_finite.Gen.facts,
    frame_p, frame_pi, frame_pi_finite, frame_ri, frame_ri_finite, trivial, algebraic⟩

end Cert.Proof

end
